-- ==== Defs.lean ====
def Pre_Main (m : (ℓ : Loc Cert.Main.nD Cert.Main.τ Cert.Main.sig) → Buf (Elt Bits) ℓ) : Prop :=
  True

def Pre_MainIdeal (m : (ℓ : Loc Cert.MainIdeal.nD Cert.MainIdeal.τ Cert.MainIdeal.sig) → Buf (Elt Ideal) ℓ) : Prop :=
  True

def Pre_MainIdeal_blocks_in_range [hPre_blocks_in_range : Cert.Pre_blocks_in_range.Facts] (m : (ℓ : Loc Cert.MainIdeal.nD Cert.MainIdeal.τ Cert.MainIdeal.sig) → Buf (Elt Ideal) ℓ) : Prop :=
  ∀ c : Dev Cert.MainIdeal.nD,
    (Cert.Pre_blocks_in_range.fn (F := Ideal) (m ((c.tc : Thread Cert.MainIdeal.nD Cert.MainIdeal.τ).loc Cert.MainIdeal.main_arg0)) (m ((c.tc : Thread Cert.MainIdeal.nD Cert.MainIdeal.τ).loc Cert.MainIdeal.main_arg1))) = (fun _ => 1#1)

def Pre_MainRefIdeal (m : (ℓ : Loc Cert.MainRefIdeal.nD Cert.MainRefIdeal.τ Cert.MainRefIdeal.sig) → Buf (Elt Ideal) ℓ) : Prop :=
  True

def Pre_MainRefIdeal_blocks_in_range [hPre_blocks_in_range : Cert.Pre_blocks_in_range.Facts] (m : (ℓ : Loc Cert.MainRefIdeal.nD Cert.MainRefIdeal.τ Cert.MainRefIdeal.sig) → Buf (Elt Ideal) ℓ) : Prop :=
  ∀ c : Dev Cert.MainRefIdeal.nD,
    (Cert.Pre_blocks_in_range.fn (F := Ideal) (m ((c.tc : Thread Cert.MainRefIdeal.nD Cert.MainRefIdeal.τ).loc Cert.MainRefIdeal.main_arg0)) (m ((c.tc : Thread Cert.MainRefIdeal.nD Cert.MainRefIdeal.τ).loc Cert.MainRefIdeal.main_arg1))) = (fun _ => 1#1)

def quiescent_Main [hMain : Cert.Main.Facts] : Prop :=
  ∀ (m : (ℓ : Loc Cert.Main.nD Cert.Main.τ Cert.Main.sig) → Buf (Elt Bits) ℓ) (g : Dev Cert.Main.nD → PrngReg), Pre_Main m →
    θ_run (Cert.Main.defs (F := Bits)) (onTc (τ := Cert.Main.τ) (Cert.Main.main (F := Bits))) ⟨m, fun _ => 0, g⟩ (fun r => (∀ c : Dev Cert.Main.nD,
      r.2.mem ((c.tc : Thread Cert.Main.nD Cert.Main.τ).loc Cert.Main.main_arg0) = m ((c.tc : Thread Cert.Main.nD Cert.Main.τ).loc Cert.Main.main_arg0)
      ∧ r.2.mem ((c.tc : Thread Cert.Main.nD Cert.Main.τ).loc Cert.Main.main_arg1) = m ((c.tc : Thread Cert.Main.nD Cert.Main.τ).loc Cert.Main.main_arg1))
      ∧ r.2.sem = fun _ => 0)

def quiescent_MainIdeal [hMainIdeal : Cert.MainIdeal.Facts] : Prop :=
  ∀ (m : (ℓ : Loc Cert.MainIdeal.nD Cert.MainIdeal.τ Cert.MainIdeal.sig) → Buf (Elt Ideal) ℓ) (g : Dev Cert.MainIdeal.nD → PrngReg), Pre_MainIdeal m →
    θ_run (Cert.MainIdeal.defs (F := Ideal)) (onTc (τ := Cert.MainIdeal.τ) (Cert.MainIdeal.main (F := Ideal))) ⟨m, fun _ => 0, g⟩ (fun r => (∀ c : Dev Cert.MainIdeal.nD,
      r.2.mem ((c.tc : Thread Cert.MainIdeal.nD Cert.MainIdeal.τ).loc Cert.MainIdeal.main_arg0) = m ((c.tc : Thread Cert.MainIdeal.nD Cert.MainIdeal.τ).loc Cert.MainIdeal.main_arg0)
      ∧ r.2.mem ((c.tc : Thread Cert.MainIdeal.nD Cert.MainIdeal.τ).loc Cert.MainIdeal.main_arg1) = m ((c.tc : Thread Cert.MainIdeal.nD Cert.MainIdeal.τ).loc Cert.MainIdeal.main_arg1))
      ∧ r.2.sem = fun _ => 0)

def quiescent_MainIdeal_pre_blocks_in_range [hMainIdeal : Cert.MainIdeal.Facts] [hPre_blocks_in_range : Cert.Pre_blocks_in_range.Facts] : Prop :=
  ∀ (m : (ℓ : Loc Cert.MainIdeal.nD Cert.MainIdeal.τ Cert.MainIdeal.sig) → Buf (Elt Ideal) ℓ) (g : Dev Cert.MainIdeal.nD → PrngReg), Pre_MainIdeal_blocks_in_range m →
    θ_run (Cert.MainIdeal.defs (F := Ideal)) (onTc (τ := Cert.MainIdeal.τ) (Cert.MainIdeal.main (F := Ideal))) ⟨m, fun _ => 0, g⟩ (fun r => (∀ c : Dev Cert.MainIdeal.nD,
      r.2.mem ((c.tc : Thread Cert.MainIdeal.nD Cert.MainIdeal.τ).loc Cert.MainIdeal.main_arg0) = m ((c.tc : Thread Cert.MainIdeal.nD Cert.MainIdeal.τ).loc Cert.MainIdeal.main_arg0)
      ∧ r.2.mem ((c.tc : Thread Cert.MainIdeal.nD Cert.MainIdeal.τ).loc Cert.MainIdeal.main_arg1) = m ((c.tc : Thread Cert.MainIdeal.nD Cert.MainIdeal.τ).loc Cert.MainIdeal.main_arg1))
      ∧ r.2.sem = fun _ => 0)

def quiescent_MainRefIdeal [hMainRefIdeal : Cert.MainRefIdeal.Facts] : Prop :=
  ∀ (m : (ℓ : Loc Cert.MainRefIdeal.nD Cert.MainRefIdeal.τ Cert.MainRefIdeal.sig) → Buf (Elt Ideal) ℓ) (g : Dev Cert.MainRefIdeal.nD → PrngReg), Pre_MainRefIdeal m →
    θ_run (Cert.MainRefIdeal.defs (F := Ideal)) (onTc (τ := Cert.MainRefIdeal.τ) (Cert.MainRefIdeal.main (F := Ideal))) ⟨m, fun _ => 0, g⟩ (fun r => (∀ c : Dev Cert.MainRefIdeal.nD,
      r.2.mem ((c.tc : Thread Cert.MainRefIdeal.nD Cert.MainRefIdeal.τ).loc Cert.MainRefIdeal.main_arg0) = m ((c.tc : Thread Cert.MainRefIdeal.nD Cert.MainRefIdeal.τ).loc Cert.MainRefIdeal.main_arg0)
      ∧ r.2.mem ((c.tc : Thread Cert.MainRefIdeal.nD Cert.MainRefIdeal.τ).loc Cert.MainRefIdeal.main_arg1) = m ((c.tc : Thread Cert.MainRefIdeal.nD Cert.MainRefIdeal.τ).loc Cert.MainRefIdeal.main_arg1))
      ∧ r.2.sem = fun _ => 0)

def quiescent_MainRefIdeal_pre_blocks_in_range [hMainRefIdeal : Cert.MainRefIdeal.Facts] [hPre_blocks_in_range : Cert.Pre_blocks_in_range.Facts] : Prop :=
  ∀ (m : (ℓ : Loc Cert.MainRefIdeal.nD Cert.MainRefIdeal.τ Cert.MainRefIdeal.sig) → Buf (Elt Ideal) ℓ) (g : Dev Cert.MainRefIdeal.nD → PrngReg), Pre_MainRefIdeal_blocks_in_range m →
    θ_run (Cert.MainRefIdeal.defs (F := Ideal)) (onTc (τ := Cert.MainRefIdeal.τ) (Cert.MainRefIdeal.main (F := Ideal))) ⟨m, fun _ => 0, g⟩ (fun r => (∀ c : Dev Cert.MainRefIdeal.nD,
      r.2.mem ((c.tc : Thread Cert.MainRefIdeal.nD Cert.MainRefIdeal.τ).loc Cert.MainRefIdeal.main_arg0) = m ((c.tc : Thread Cert.MainRefIdeal.nD Cert.MainRefIdeal.τ).loc Cert.MainRefIdeal.main_arg0)
      ∧ r.2.mem ((c.tc : Thread Cert.MainRefIdeal.nD Cert.MainRefIdeal.τ).loc Cert.MainRefIdeal.main_arg1) = m ((c.tc : Thread Cert.MainRefIdeal.nD Cert.MainRefIdeal.τ).loc Cert.MainRefIdeal.main_arg1))
      ∧ r.2.sem = fun _ => 0)

def preserves_Main_MainIdeal : Prop :=
  True

def algebraic_MainIdeal_MainRefIdeal_pre_blocks_in_range [hMainIdeal : Cert.MainIdeal.Facts] [hMainRefIdeal : Cert.MainRefIdeal.Facts] [hPre_blocks_in_range : Cert.Pre_blocks_in_range.Facts] : Prop :=
  ∀ (m : (ℓ : Loc Cert.MainIdeal.nD Cert.MainIdeal.τ Cert.MainIdeal.sig) → Buf (Elt Ideal) ℓ) (g : Dev Cert.MainIdeal.nD → PrngReg)
    (m' : (ℓ : Loc Cert.MainRefIdeal.nD Cert.MainRefIdeal.τ Cert.MainRefIdeal.sig) → Buf (Elt Ideal) ℓ) (g' : Dev Cert.MainRefIdeal.nD → PrngReg), Pre_MainIdeal_blocks_in_range m →
    (∀ c : Dev Cert.MainIdeal.nD,
      m' ((c.tc : Thread Cert.MainRefIdeal.nD Cert.MainRefIdeal.τ).loc Cert.MainRefIdeal.main_arg0) = m ((c.tc : Thread Cert.MainIdeal.nD Cert.MainIdeal.τ).loc Cert.MainIdeal.main_arg0)
      ∧ m' ((c.tc : Thread Cert.MainRefIdeal.nD Cert.MainRefIdeal.τ).loc Cert.MainRefIdeal.main_arg1) = m ((c.tc : Thread Cert.MainIdeal.nD Cert.MainIdeal.τ).loc Cert.MainIdeal.main_arg1)) →
    ∃ (v0 : (c : Dev Cert.MainIdeal.nD) → Buf (Elt Ideal) ((c.tc : Thread Cert.MainIdeal.nD Cert.MainIdeal.τ).loc Cert.MainIdeal.main_v1_0)) (v1 : (c : Dev Cert.MainIdeal.nD) → Buf (Elt Ideal) ((c.tc : Thread Cert.MainIdeal.nD Cert.MainIdeal.τ).loc Cert.MainIdeal.main_v1_1)) (v2 : (c : Dev Cert.MainIdeal.nD) → Buf (Elt Ideal) ((c.tc : Thread Cert.MainIdeal.nD Cert.MainIdeal.τ).loc Cert.MainIdeal.main_v1_2)),
      θ_run (Cert.MainIdeal.defs (F := Ideal)) (onTc (τ := Cert.MainIdeal.τ) (Cert.MainIdeal.main (F := Ideal))) ⟨m, fun _ => 0, g⟩ (fun r => ∀ c : Dev Cert.MainIdeal.nD,
          r.2.mem ((c.tc : Thread Cert.MainIdeal.nD Cert.MainIdeal.τ).loc Cert.MainIdeal.main_v1_0) = v0 c
          ∧ r.2.mem ((c.tc : Thread Cert.MainIdeal.nD Cert.MainIdeal.τ).loc Cert.MainIdeal.main_v1_1) = v1 c
          ∧ r.2.mem ((c.tc : Thread Cert.MainIdeal.nD Cert.MainIdeal.τ).loc Cert.MainIdeal.main_v1_2) = v2 c
          ∧ r.2.mem ((c.tc : Thread Cert.MainIdeal.nD Cert.MainIdeal.τ).loc Cert.MainIdeal.main_arg0) = m ((c.tc : Thread Cert.MainIdeal.nD Cert.MainIdeal.τ).loc Cert.MainIdeal.main_arg0)
          ∧ r.2.mem ((c.tc : Thread Cert.MainIdeal.nD Cert.MainIdeal.τ).loc Cert.MainIdeal.main_arg1) = m ((c.tc : Thread Cert.MainIdeal.nD Cert.MainIdeal.τ).loc Cert.MainIdeal.main_arg1))
      ∧ θ_run (Cert.MainRefIdeal.defs (F := Ideal)) (onTc (τ := Cert.MainRefIdeal.τ) (Cert.MainRefIdeal.main (F := Ideal))) ⟨m', fun _ => 0, g'⟩ (fun r => ∀ c : Dev Cert.MainRefIdeal.nD,
          r.2.mem ((c.tc : Thread Cert.MainRefIdeal.nD Cert.MainRefIdeal.τ).loc Cert.MainRefIdeal.main_v43) = v0 c
          ∧ r.2.mem ((c.tc : Thread Cert.MainRefIdeal.nD Cert.MainRefIdeal.τ).loc Cert.MainRefIdeal.main_v47) = v1 c
          ∧ r.2.mem ((c.tc : Thread Cert.MainRefIdeal.nD Cert.MainRefIdeal.τ).loc Cert.MainRefIdeal.main_v46) = v2 c
          ∧ r.2.mem ((c.tc : Thread Cert.MainRefIdeal.nD Cert.MainRefIdeal.τ).loc Cert.MainRefIdeal.main_arg0) = m' ((c.tc : Thread Cert.MainRefIdeal.nD Cert.MainRefIdeal.τ).loc Cert.MainRefIdeal.main_arg0)
          ∧ r.2.mem ((c.tc : Thread Cert.MainRefIdeal.nD Cert.MainRefIdeal.τ).loc Cert.MainRefIdeal.main_arg1) = m' ((c.tc : Thread Cert.MainRefIdeal.nD Cert.MainRefIdeal.τ).loc Cert.MainRefIdeal.main_arg1))

def Claim : Prop :=
  ∃ (hMain : Cert.Main.Facts) (hMainIdeal : Cert.MainIdeal.Facts) (hMainRefIdeal : Cert.MainRefIdeal.Facts) (hPre_blocks_in_range : Cert.Pre_blocks_in_range.Facts),
    quiescent_Main (hMain := hMain)
    ∧ quiescent_MainIdeal (hMainIdeal := hMainIdeal)
    ∧ quiescent_MainIdeal_pre_blocks_in_range (hMainIdeal := hMainIdeal) (hPre_blocks_in_range := hPre_blocks_in_range)
    ∧ quiescent_MainRefIdeal (hMainRefIdeal := hMainRefIdeal)
    ∧ quiescent_MainRefIdeal_pre_blocks_in_range (hMainRefIdeal := hMainRefIdeal) (hPre_blocks_in_range := hPre_blocks_in_range)
    ∧ preserves_Main_MainIdeal
    ∧ algebraic_MainIdeal_MainRefIdeal_pre_blocks_in_range (hMainIdeal := hMainIdeal) (hMainRefIdeal := hMainRefIdeal) (hPre_blocks_in_range := hPre_blocks_in_range)
-- ==== Pre_blocks_in_range.lean ====
abbrev S24x512x2560 : Shape := ⟨3, ![24, 512, 2560]⟩
abbrev S2560x6912 : Shape := ⟨2, ![2560, 6912]⟩
abbrev S12288x80x32 : Shape := ⟨3, ![12288, 80, 32]⟩
abbrev S_ : Shape := ⟨0, ![]⟩
abbrev S12288x80 : Shape := ⟨2, ![12288, 80]⟩

class Facts : Prop where
  bitsLt_bf16_f32 : FTy.bits .bf16 < FTy.bits .f32
  shapeCasts_S24x512x2560_S12288x80x32 : S24x512x2560.ShapeCasts S12288x80x32
  reducesTo_S12288x80x32_S12288x80_d2 : S12288x80x32.ReducesTo [2] S12288x80
  h_S_ : 0 < S_.numel
  bcast_S_S12288x80 : S_.BroadcastsInDim S12288x80 (![] : Fin 0 → Fin S12288x80.rank)

variable [Facts]

def fn {F : FTy → Type} [FloatOps F] (main_arg0 : FVec F S24x512x2560 .bf16) (main_arg1 : FVec F S2560x6912 .bf16) : IVec S12288x80 1 :=
  let main_v0 : FVec F S24x512x2560 .f32 := (extf .f32 · bitsLt_bf16_f32) main_arg0
  let main_v1 : FVec F S12288x80x32 .f32 := shapeCast S12288x80x32 main_v0 shapeCasts_S24x512x2560_S12288x80x32
  let main_v2 : FVec F S12288x80x32 .f32 := Host.absf main_v1
  let main_cst : FVec F S_ .f32 := constant S_ .f32 0xFF800000#32
  let main_v3 : FVec F S12288x80 .f32 := (fun x v => Host.reduce FloatOps.maximumf x v reducesTo_S12288x80x32_S12288x80_d2 h_S_) main_v2 main_cst
  let main_cst_0 : FVec F S_ .f32 := constant S_ .f32 0x00000000#32
  let main_v4 : FVec F S12288x80 .f32 := broadcastInDim S12288x80 ![] bcast_S_S12288x80 main_cst_0
  let main_v5 : IVec S12288x80 1 := cmpf .oeq main_v3 main_v4
  let main_cst_1 : FVec F S_ .f32 := constant S_ .f32 0x01800000#32
  let main_v6 : FVec F S12288x80 .f32 := broadcastInDim S12288x80 ![] bcast_S_S12288x80 main_cst_1
  let main_v7 : IVec S12288x80 1 := cmpf .oge main_v3 main_v6
  let main_cst_2 : FVec F S_ .f32 := constant S_ .f32 0x7D000000#32
  let main_v8 : FVec F S12288x80 .f32 := broadcastInDim S12288x80 ![] bcast_S_S12288x80 main_cst_2
  let main_v9 : IVec S12288x80 1 := cmpf .olt main_v3 main_v8
  let main_v10 : IVec S12288x80 1 := andi main_v7 main_v9
  let main_v11 : IVec S12288x80 1 := ori main_v5 main_v10
  main_v11
-- ==== Main.lean ====
abbrev S24x512x2560 : Shape := ⟨3, ![24, 512, 2560]⟩
abbrev S2560x6912 : Shape := ⟨2, ![2560, 6912]⟩
abbrev S12288x2560 : Shape := ⟨2, ![12288, 2560]⟩
abbrev S12288x6912 : Shape := ⟨2, ![12288, 6912]⟩
abbrev S12288x80 : Shape := ⟨2, ![12288, 80]⟩
abbrev S512x2560 : Shape := ⟨2, ![512, 2560]⟩
abbrev S512x6912 : Shape := ⟨2, ![512, 6912]⟩
abbrev S512x80 : Shape := ⟨2, ![512, 80]⟩
abbrev S512x256 : Shape := ⟨2, ![512, 256]⟩
abbrev S256x512 : Shape := ⟨2, ![256, 512]⟩
abbrev S8x32x512 : Shape := ⟨3, ![8, 32, 512]⟩
abbrev S8x512 : Shape := ⟨2, ![8, 512]⟩
abbrev S48x512 : Shape := ⟨2, ![48, 512]⟩
abbrev S128x512 : Shape := ⟨2, ![128, 512]⟩
abbrev S512x128 : Shape := ⟨2, ![512, 128]⟩
abbrev S256x128 : Shape := ⟨2, ![256, 128]⟩
abbrev S256x128x1 : Shape := ⟨3, ![256, 128, 1]⟩
abbrev S2560x256 : Shape := ⟨2, ![2560, 256]⟩

abbrev nBuf : Space → Nat
  | .hbm => 6
  | .vmem => 10
  | .smem => 0
  | _ => 0

abbrev bufTy : (tb : Table) → Fin (tcTables nBuf tb) → BufTy
  | .hbm, ⟨0, _⟩ => ⟨S24x512x2560, .bf16⟩
  | .hbm, ⟨1, _⟩ => ⟨S2560x6912, .bf16⟩
  | .hbm, ⟨2, _⟩ => ⟨S12288x2560, .bf16⟩
  | .hbm, ⟨3, _⟩ => ⟨S12288x6912, .bf16⟩
  | .hbm, ⟨4, _⟩ => ⟨S12288x2560, .fp8e4m3⟩
  | .hbm, ⟨5, _⟩ => ⟨S12288x80, .i8⟩
  | .local _ .vmem, ⟨0, _⟩ => ⟨S512x2560, .bf16⟩
  | .local _ .vmem, ⟨1, _⟩ => ⟨S512x2560, .bf16⟩
  | .local _ .vmem, ⟨2, _⟩ => ⟨S2560x6912, .bf16⟩
  | .local _ .vmem, ⟨3, _⟩ => ⟨S512x6912, .bf16⟩
  | .local _ .vmem, ⟨4, _⟩ => ⟨S512x6912, .bf16⟩
  | .local _ .vmem, ⟨5, _⟩ => ⟨S512x2560, .fp8e4m3⟩
  | .local _ .vmem, ⟨6, _⟩ => ⟨S512x2560, .fp8e4m3⟩
  | .local _ .vmem, ⟨7, _⟩ => ⟨S512x80, .i8⟩
  | .local _ .vmem, ⟨8, _⟩ => ⟨S512x80, .i8⟩
  | .local _ .vmem, ⟨9, _⟩ => ⟨S512x2560, .bf16⟩
  | _, _ => ⟨S24x512x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2560x6912 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x6912 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2560 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x80 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MainRefIdeal.lean ====
abbrev S24x512x2560 : Shape := ⟨3, ![24, 512, 2560]⟩
abbrev S2560x6912 : Shape := ⟨2, ![2560, 6912]⟩
abbrev S12288x80x32 : Shape := ⟨3, ![12288, 80, 32]⟩
abbrev S_ : Shape := ⟨0, ![]⟩
abbrev S12288x80 : Shape := ⟨2, ![12288, 80]⟩
abbrev S254 : Shape := ⟨1, ![254]⟩
abbrev S12288x80x1 : Shape := ⟨3, ![12288, 80, 1]⟩
abbrev S1x1x254 : Shape := ⟨3, ![1, 1, 254]⟩
abbrev S12288x80x254 : Shape := ⟨3, ![12288, 80, 254]⟩
abbrev S12288x2560 : Shape := ⟨2, ![12288, 2560]⟩
abbrev S12288x6912 : Shape := ⟨2, ![12288, 6912]⟩

abbrev nBuf : Space → Nat
  | .hbm => 70
  | .vmem => 0
  | .smem => 0
  | _ => 0

abbrev bufTy : (tb : Table) → Fin (tcTables nBuf tb) → BufTy
  | .hbm, ⟨0, _⟩ => ⟨S24x512x2560, .bf16⟩
  | .hbm, ⟨1, _⟩ => ⟨S2560x6912, .bf16⟩
  | .hbm, ⟨2, _⟩ => ⟨S24x512x2560, .f32⟩
  | .hbm, ⟨3, _⟩ => ⟨S12288x80x32, .f32⟩
  | .hbm, ⟨4, _⟩ => ⟨S12288x80x32, .f32⟩
  | .hbm, ⟨5, _⟩ => ⟨S_, .f32⟩
  | .hbm, ⟨6, _⟩ => ⟨S12288x80, .f32⟩
  | .hbm, ⟨7, _⟩ => ⟨S254, .i32⟩
  | .hbm, ⟨8, _⟩ => ⟨S_, .i32⟩
  | .hbm, ⟨9, _⟩ => ⟨S254, .i32⟩
  | .hbm, ⟨10, _⟩ => ⟨S254, .i32⟩
  | .hbm, ⟨11, _⟩ => ⟨S254, .f32⟩
  | .hbm, ⟨12, _⟩ => ⟨S_, .f32⟩
  | .hbm, ⟨13, _⟩ => ⟨S254, .f32⟩
  | .hbm, ⟨14, _⟩ => ⟨S254, .f32⟩
  | .hbm, ⟨15, _⟩ => ⟨S12288x80x1, .f32⟩
  | .hbm, ⟨16, _⟩ => ⟨S1x1x254, .f32⟩
  | .hbm, ⟨17, _⟩ => ⟨S12288x80x254, .f32⟩
  | .hbm, ⟨18, _⟩ => ⟨S12288x80x254, .f32⟩
  | .hbm, ⟨19, _⟩ => ⟨S12288x80x254, .i1⟩
  | .hbm, ⟨20, _⟩ => ⟨S12288x80x254, .i32⟩
  | .hbm, ⟨21, _⟩ => ⟨S_, .i32⟩
  | .hbm, ⟨22, _⟩ => ⟨S12288x80, .i32⟩
  | .hbm, ⟨23, _⟩ => ⟨S_, .i32⟩
  | .hbm, ⟨24, _⟩ => ⟨S12288x80, .i32⟩
  | .hbm, ⟨25, _⟩ => ⟨S12288x80, .i32⟩
  | .hbm, ⟨26, _⟩ => ⟨S_, .f32⟩
  | .hbm, ⟨27, _⟩ => ⟨S12288x80, .f32⟩
  | .hbm, ⟨28, _⟩ => ⟨S12288x80, .i1⟩
  | .hbm, ⟨29, _⟩ => ⟨S_, .i32⟩
  | .hbm, ⟨30, _⟩ => ⟨S12288x80, .i32⟩
  | .hbm, ⟨31, _⟩ => ⟨S12288x80, .i32⟩
  | .hbm, ⟨32, _⟩ => ⟨S_, .i32⟩
  | .hbm, ⟨33, _⟩ => ⟨S_, .i32⟩
  | .hbm, ⟨34, _⟩ => ⟨S12288x80, .i32⟩
  | .hbm, ⟨35, _⟩ => ⟨S12288x80, .i32⟩
  | .hbm, ⟨36, _⟩ => ⟨S12288x80, .f32⟩
  | .hbm, ⟨37, _⟩ => ⟨S_, .f32⟩
  | .hbm, ⟨38, _⟩ => ⟨S12288x80, .f32⟩
  | .hbm, ⟨39, _⟩ => ⟨S12288x80, .f32⟩
  | .hbm, ⟨40, _⟩ => ⟨S12288x80, .i32⟩
  | .hbm, ⟨41, _⟩ => ⟨S12288x80, .f32⟩
  | .hbm, ⟨42, _⟩ => ⟨S_, .f32⟩
  | .hbm, ⟨43, _⟩ => ⟨S12288x80, .f32⟩
  | .hbm, ⟨44, _⟩ => ⟨S12288x80, .f32⟩
  | .hbm, ⟨45, _⟩ => ⟨S12288x80x1, .f32⟩
  | .hbm, ⟨46, _⟩ => ⟨S12288x80x32, .f32⟩
  | .hbm, ⟨47, _⟩ => ⟨S12288x80x32, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S12288x80x32, .f32⟩
  | .hbm, ⟨52, _⟩ => ⟨S12288x80x32, .f32⟩
  | .hbm, ⟨53, _⟩ => ⟨S_, .f32⟩
  | .hbm, ⟨54, _⟩ => ⟨S12288x80x32, .f32⟩
  | .hbm, ⟨55, _⟩ => ⟨S12288x80x32, .f32⟩
  | .hbm, ⟨56, _⟩ => ⟨S12288x80x32, .fp8e4m3⟩
  | .hbm, ⟨57, _⟩ => ⟨S12288x80x32, .bf16⟩
  | .hbm, ⟨58, _⟩ => ⟨S12288x80, .bf16⟩
  | .hbm, ⟨59, _⟩ => ⟨S12288x80x1, .bf16⟩
  | .hbm, ⟨60, _⟩ => ⟨S12288x80x32, .bf16⟩
  | .hbm, ⟨61, _⟩ => ⟨S12288x80x32, .bf16⟩
  | .hbm, ⟨62, _⟩ => ⟨S12288x2560, .bf16⟩
  | .hbm, ⟨63, _⟩ => ⟨S12288x6912, .f32⟩
  | .hbm, ⟨64, _⟩ => ⟨S12288x6912, .bf16⟩
  | .hbm, ⟨65, _⟩ => ⟨S_, .i32⟩
  | .hbm, ⟨66, _⟩ => ⟨S12288x80, .i32⟩
  | .hbm, ⟨67, _⟩ => ⟨S12288x80, .i32⟩
  | .hbm, ⟨68, _⟩ => ⟨S12288x80, .i8⟩
  | .hbm, ⟨69, _⟩ => ⟨S12288x2560, .fp8e4m3⟩
  | _, _ => ⟨S24x512x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_1 : Ref sig .tc := ⟨.hbm, 21, rfl⟩
abbrev main_v16 : Ref sig .tc := ⟨.hbm, 22, rfl⟩
abbrev main_c_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_c_4 : Ref sig .tc := ⟨.hbm, 29, rfl⟩
abbrev main_v21 : Ref sig .tc := ⟨.hbm, 30, rfl⟩
abbrev main_v22 : Ref sig .tc := ⟨.hbm, 31, rfl⟩
abbrev main_c_5 : Ref sig .tc := ⟨.hbm, 32, rfl⟩
abbrev main_call0_v0 : Ref sig .tc := ⟨.hbm, 33, rfl⟩
abbrev main_call0_v1 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_cst_9 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩

abbrev nD : Nat := 1
abbrev τ : Topo := Topo.v7x

variable {F : FTy → Type} [FloatOps F]
-- ==== Proof.Powers.lean ====
/- Powers of two: what the bit patterns with a zero fraction denote, and the exponent of a magnitude. -/
module

public import Idealize.ShloMosaic.PureOps.Ideal
public import Idealize.ShloMosaic.PureOps.Ideal.Laws

@[expose] public section

noncomputable section

namespace Cert.Proof

open Idealize.ShloMosaic

/-- The power of two `2 ^ n` as an extended real. -/
def pow2 (n : ℤ) : EReal := (((2 : ℝ) ^ n : ℝ) : EReal)

theorem pow2_le_pow2 {m n : ℤ} : pow2 m ≤ pow2 n ↔ m ≤ n := by
  unfold pow2
  rw [EReal.coe_le_coe_iff]
  exact zpow_le_zpow_iff_right₀ (by norm_num)

theorem pow2_lt_pow2 {m n : ℤ} : pow2 m < pow2 n ↔ m < n := by
  rw [lt_iff_not_ge, lt_iff_not_ge, pow2_le_pow2]

theorem pow2_pos (n : ℤ) : 0 < pow2 n := by
  unfold pow2
  exact_mod_cast zpow_pos (by norm_num : (0 : ℝ) < 2) n

theorem shli_vector (x : BitVec 32) (k : Nat) (hk : k < 32) :
    IntOp.shli .vector x (BitVec.ofNat 32 k) = x <<< k := by
  have hk' : (BitVec.ofNat 32 k).toNat = k := by rw [BitVec.toNat_ofNat]; omega
  unfold IntOp.shli
  rw [hk', if_pos hk, BitVec.shiftLeft_eq', hk']

/-- A pattern with a clear sign, a zero fraction and an exponent field `n` that is neither zero nor all ones. -/
theorem ieee_pow2 (e m : ℕ) {w : ℕ} (b : BitVec w) (n : ℕ) (h1 : b.extractLsb' (e + m) 1 ≠ 1#1)
    (h2 : (b.extractLsb' m e).toNat = n) (h3 : (b.extractLsb' 0 m).toNat = 0) (hn : n ≠ 2 ^ e - 1) (h0 : n ≠ 0) :
    Ideal.ieee e m b = pow2 ((n : ℤ) - (2 ^ (e - 1) - 1)) := by
  have h1' : (b.extractLsb' (e + m) 1 == 1#1) = false := by rwa [beq_eq_false_iff_ne]
  unfold Ideal.ieee
  simp only [h1', h2, h3, if_neg hn, if_neg h0]
  unfold pow2
  refine congrArg (fun r : ℝ => (r : EReal)) ?_
  rw [sub_eq_add_neg _ (m : ℤ), zpow_add₀ (by norm_num)]
  simp only [Bool.false_eq_true, if_false, one_mul, Nat.add_zero, zpow_neg, zpow_natCast]
  push_cast
  field_simp

/-- A binary32 pattern whose exponent field is `n` (neither 0 nor 255) and whose other fields are zero denotes `2 ^ (n - 127)`. -/
theorem ofBits_f32 (n : ℕ) (h1 : 1 ≤ n) (h2 : n ≤ 254) :
    Ideal.ofBits .f32 (BitVec.ofNat 32 n <<< 23) = pow2 ((n : ℤ) - 127) := by
  have hN : (BitVec.ofNat 32 n <<< 23).toNat = n * 8388608 := by
    rw [BitVec.toNat_shiftLeft, BitVec.toNat_ofNat, Nat.shiftLeft_eq]; omega
  refine (ieee_pow2 8 23 _ n ?_ ?_ ?_ (by omega) (by omega)).trans (congrArg pow2 (by norm_num))
  · intro h
    have := congrArg BitVec.toNat h
    rw [BitVec.extractLsb'_toNat, hN, Nat.shiftRight_eq_div_pow] at this
    simp at this; omega
  · rw [BitVec.extractLsb'_toNat, hN, Nat.shiftRight_eq_div_pow]; omega
  · rw [BitVec.extractLsb'_toNat, hN, Nat.shiftRight_eq_div_pow]; omega

/-- The bfloat16 pattern with exponent field `n` and other fields zero denotes `2 ^ (n - 127)`. -/
theorem ofBits_bf16 (n : ℕ) (h1 : 1 ≤ n) (h2 : n ≤ 254) :
    Ideal.ofBits .bf16 (BitVec.ofNat 16 (n * 128)) = pow2 ((n : ℤ) - 127) := by
  have hN : (BitVec.ofNat 16 (n * 128)).toNat = n * 128 := by
    rw [BitVec.toNat_ofNat]; omega
  refine (ieee_pow2 8 7 _ n ?_ ?_ ?_ (by omega) (by omega)).trans (congrArg pow2 (by norm_num))
  · intro h
    have := congrArg BitVec.toNat h
    rw [BitVec.extractLsb'_toNat, hN, Nat.shiftRight_eq_div_pow] at this
    simp at this; omega
  · rw [BitVec.extractLsb'_toNat, hN, Nat.shiftRight_eq_div_pow]; omega
  · rw [BitVec.extractLsb'_toNat, hN, Nat.shiftRight_eq_div_pow]; omega

theorem ofBits_f32_top : Ideal.ofBits .f32 (BitVec.ofNat 32 255 <<< 23) = ⊤ := by
  simp only [Ideal.ofBits]
  unfold Ideal.ieee
  have e1 : ((BitVec.ofNat 32 255 <<< 23).extractLsb' (8 + 23) 1 == 1#1) = false := by decide
  have e2 : ((BitVec.ofNat 32 255 <<< 23).extractLsb' 23 8).toNat = 255 := by decide
  have e3 : ((BitVec.ofNat 32 255 <<< 23).extractLsb' 0 23).toNat = 0 := by decide
  simp only [e1, e2, e3]
  norm_num

/-- What the precondition says of one block's largest magnitude. -/
def InRange (a : EReal) : Prop := a = 0 ∨ (pow2 (-124) ≤ a ∧ a < pow2 123)

/-- A magnitude in range that is not zero lies between two consecutive powers of two. -/
theorem InRange.binade {a : EReal} (h : InRange a) (h0 : a ≠ 0) :
    ∃ n : ℕ, 3 ≤ n ∧ n ≤ 249 ∧ pow2 ((n : ℤ) - 127) ≤ a ∧ a < pow2 ((n : ℤ) - 126) := by
  obtain h | ⟨hl, hu⟩ := h
  · exact absurd h h0
  induction a with
  | bot => exact absurd (hl.trans_lt' (pow2_pos _)) (by simp)
  | top => exact absurd hu (by simp)
  | coe x =>
    have hx : 0 < x := by exact_mod_cast (pow2_pos _).trans_le hl
    obtain ⟨k, hk1, hk2⟩ := exists_mem_Ico_zpow hx (by norm_num : (1 : ℝ) < 2)
    have hk1' : pow2 k ≤ (x : EReal) := by unfold pow2; exact_mod_cast hk1
    have hk2' : (x : EReal) < pow2 (k + 1) := by unfold pow2; exact_mod_cast hk2
    have a1 : -124 < k + 1 := pow2_lt_pow2.mp (hl.trans_lt hk2')
    have a2 : k < 123 := pow2_lt_pow2.mp (hk1'.trans_lt hu)
    refine ⟨(k + 127).toNat, by omega, by omega, ?_, ?_⟩
    · rw [show (((k + 127).toNat : ℤ) - 127) = k by omega]; exact hk1'
    · rw [show (((k + 127).toNat : ℤ) - 126) = k + 1 by omega]; exact hk2'

end Cert.Proof

end
-- ==== Proof.Clip.lean ====
/- The quantiser's clip: the kernel clips a value that was divided by 64 more, to a bound divided by 64, and multiplies
   the result by 64; the reference clips to 7.5. -/
module

public import proofs.«01_k».proof.Proof.Powers

@[expose] public section

noncomputable section

namespace Cert.Proof

open Idealize.ShloMosaic

theorem ofBits_bound_small : Ideal.ofBits .f32 0x3DF00000#32 = ((15 / 128 : ℝ) : EReal) := by
  simp only [Ideal.ofBits]
  unfold Ideal.ieee
  have e1 : ((0x3DF00000#32).extractLsb' (8 + 23) 1 == 1#1) = false := by decide
  have e2 : ((0x3DF00000#32).extractLsb' 23 8).toNat = 123 := by decide
  have e3 : ((0x3DF00000#32).extractLsb' 0 23).toNat = 7340032 := by decide
  simp only [e1, e2, e3]
  norm_num

theorem ofBits_bound_small_neg : Ideal.ofBits .f32 0xBDF00000#32 = ((-(15 / 128) : ℝ) : EReal) := by
  simp only [Ideal.ofBits]
  unfold Ideal.ieee
  have e1 : ((0xBDF00000#32).extractLsb' (8 + 23) 1 == 1#1) = true := by decide
  have e2 : ((0xBDF00000#32).extractLsb' 23 8).toNat = 123 := by decide
  have e3 : ((0xBDF00000#32).extractLsb' 0 23).toNat = 7340032 := by decide
  simp only [e1, e2, e3]
  norm_num

theorem ofBits_bound : Ideal.ofBits .f32 0x40F00000#32 = ((15 / 2 : ℝ) : EReal) := by
  simp only [Ideal.ofBits]
  unfold Ideal.ieee
  have e1 : ((0x40F00000#32).extractLsb' (8 + 23) 1 == 1#1) = false := by decide
  have e2 : ((0x40F00000#32).extractLsb' 23 8).toNat = 129 := by decide
  have e3 : ((0x40F00000#32).extractLsb' 0 23).toNat = 7340032 := by decide
  simp only [e1, e2, e3]
  norm_num

theorem ofBits_bound_neg : Ideal.ofBits .f32 0xC0F00000#32 = ((-(15 / 2) : ℝ) : EReal) := by
  simp only [Ideal.ofBits]
  unfold Ideal.ieee
  have e1 : ((0xC0F00000#32).extractLsb' (8 + 23) 1 == 1#1) = true := by decide
  have e2 : ((0xC0F00000#32).extractLsb' 23 8).toNat = 129 := by decide
  have e3 : ((0xC0F00000#32).extractLsb' 0 23).toNat = 7340032 := by decide
  simp only [e1, e2, e3]
  norm_num

theorem ofBits_64 : Ideal.ofBits .bf16 0x4280#16 = pow2 6 := by
  have := ofBits_bf16 133 (by omega) (by omega)
  exact this.trans (congrArg pow2 (by norm_num))

/-- The quantiser's clip of a scaled value, as the reference states it. -/
def clip (z : EReal) : EReal :=
  min (Ideal.ofBits .f32 0x40F00000#32) (max (Ideal.ofBits .f32 0xC0F00000#32) z)

/-- The kernel's clip. -/
theorem clip_64 (v : EReal) (k : ℤ) :
    min (Ideal.ofBits .f32 0x3DF00000#32) (max (Ideal.ofBits .f32 0xBDF00000#32) (v * pow2 k)) * Ideal.ofBits .bf16 0x4280#16
      = clip (v * pow2 (k + 6)) := by
  have hm : Monotone fun z : EReal => z * pow2 6 := fun a b h => mul_le_mul_of_nonneg_right h (pow2_pos 6).le
  unfold clip
  rw [ofBits_bound_small, ofBits_bound_small_neg, ofBits_bound, ofBits_bound_neg, ofBits_64]
  refine (hm.map_min).trans ?_
  refine congrArg₂ min ?_ ((hm.map_max).trans (congrArg₂ max ?_ ?_))
  · unfold pow2; rw [← EReal.coe_mul]; norm_num
  · unfold pow2; rw [← EReal.coe_mul]; norm_num
  · show v * pow2 k * pow2 6 = _
    rw [mul_assoc]
    congr 1
    unfold pow2
    rw [← EReal.coe_mul, zpow_add₀ two_ne_zero]

end Cert.Proof

end
-- ==== Proof.Exponent.lean ====
/- The exponent of a block's largest magnitude: the kernel finds the biased exponent by bisection, the reference by
   counting the powers of two that are not above the magnitude. Both are the number `n` of `HasExp`. -/
module

public import proofs.«01_k».proof.Proof.Powers
public import Idealize.ShloMosaic.Lib.IndicatorCount
public import Idealize.ShloMosaic.Lib.Pointwise

@[expose] public section

noncomputable section

namespace Cert.Proof

open Idealize.ShloMosaic

/-- `n` is the biased binary exponent of the magnitude `a`: zero for zero, and otherwise `2 ^ (n - 127)` is the greatest
    power of two that is not above `a`. -/
structure HasExp (a : EReal) (n : ℕ) : Prop where
  le : n ≤ 249
  zero : a = 0 ↔ n = 0
  low : n = 0 ∨ 3 ≤ n
  cmp : ∀ m : ℕ, 1 ≤ m → (pow2 ((m : ℤ) - 127) ≤ a ↔ m ≤ n)
  lt : a < pow2 ((n : ℤ) - 126)

/-- A magnitude in range has an exponent. -/
theorem InRange.hasExp {a : EReal} (h : InRange a) : ∃ n, HasExp a n := by
  by_cases h0 : a = 0
  · refine ⟨0, by omega, by simp [h0], Or.inl rfl, fun m hm => ?_, ?_⟩
    · subst h0
      exact ⟨fun h => absurd h (not_le.mpr (pow2_pos _)), fun h => by omega⟩
    · rw [h0]; exact pow2_pos _
  · obtain ⟨n, h3, h4, hl, hu⟩ := h.binade h0
    refine ⟨n, h4, by simp only [h0, false_iff]; omega, Or.inr h3, fun m hm => ⟨fun h => ?_, fun h => ?_⟩, hu⟩
    · have := pow2_lt_pow2.mp (h.trans_lt hu); omega
    · exact (pow2_le_pow2.mpr (by omega)).trans hl

/-- One step of the bisection: keep the bit `b` of the exponent where the power of two it leads to is not above `a`. -/
def bstep (a : EReal) (b e : BitVec 32) : BitVec 32 :=
  Scalar.select (Ideal.cmp .oge a (Ideal.ofBits .f32 (IntOp.shli .vector (e + b) 23#32))) (e + b) e

/-- The eight steps, from the top bit down. -/
def eOf (a : EReal) : BitVec 32 :=
  bstep a 1#32 (bstep a 2#32 (bstep a 4#32 (bstep a 8#32 (bstep a 16#32 (bstep a 32#32 (bstep a 64#32 (bstep a 128#32 0#32)))))))

/-- The biased scale exponent: 127 for a zero block, otherwise two less than the magnitude's biased exponent. -/
def uOf (a : EReal) : BitVec 32 :=
  Scalar.select (IntOp.cmpi .eq (eOf a) 0#32) 127#32 (IntOp.subi (eOf a) 2#32)

/-- The pattern with exponent field `m` is not above `a` just when `m` is not above `a`'s exponent. -/
theorem HasExp.ofBits_le {a : EReal} {n : ℕ} (h : HasExp a n) (m : ℕ) (h1 : 1 ≤ m) (h2 : m ≤ 255) :
    Ideal.ofBits .f32 (BitVec.ofNat 32 m <<< 23) ≤ a ↔ m ≤ n := by
  by_cases h3 : m = 255
  · subst h3
    have e : Ideal.ofBits .f32 (BitVec.ofNat 32 255 <<< 23) = ⊤ := ofBits_f32_top
    rw [e]
    constructor
    · intro hh
      exact absurd (h.lt.trans_le (le_top.trans hh)) (lt_irrefl _)
    · intro hh
      have := h.le; omega
  · rw [ofBits_f32 m h1 (by omega)]
    exact h.cmp m h1

theorem bstep_eq {a : EReal} {n : ℕ} (h : HasExp a n) (k e : ℕ) (hk : 1 ≤ k) (he : e + 2 * k ≤ 256) (h1 : e ≤ n) (h2 : n < e + 2 * k) :
    ∃ e', bstep a (BitVec.ofNat 32 k) (BitVec.ofNat 32 e) = BitVec.ofNat 32 e' ∧ e' + k ≤ 256 ∧ e' ≤ n ∧ n < e' + k := by
  have hs : IntOp.shli .vector (BitVec.ofNat 32 e + BitVec.ofNat 32 k) 23#32 = BitVec.ofNat 32 (e + k) <<< 23 := by
    rw [← BitVec.ofNat_add]; exact shli_vector _ 23 (by omega)
  have hc := h.ofBits_le (e + k) (by omega) (by omega)
  unfold bstep Ideal.cmp Scalar.select
  rw [hs, ← BitVec.ofNat_add]
  by_cases hle : e + k ≤ n
  · refine ⟨e + k, ?_, by omega, hle, by omega⟩
    rw [if_pos]; simp [hc.mpr hle]
  · refine ⟨e, ?_, by omega, h1, by omega⟩
    rw [if_neg]; simp only [hc, hle, decide_false]; decide

/-- The bisection ends at the exponent. -/
theorem HasExp.eOf {a : EReal} {n : ℕ} (h : HasExp a n) : eOf a = BitVec.ofNat 32 n := by
  have hn := h.le
  obtain ⟨e1, q1, b1, l1, u1⟩ := bstep_eq h 128 0 (by omega) (by omega) (by omega) (by omega)
  obtain ⟨e2, q2, b2, l2, u2⟩ := bstep_eq h 64 e1 (by omega) (by omega) (by omega) (by omega)
  obtain ⟨e3, q3, b3, l3, u3⟩ := bstep_eq h 32 e2 (by omega) (by omega) (by omega) (by omega)
  obtain ⟨e4, q4, b4, l4, u4⟩ := bstep_eq h 16 e3 (by omega) (by omega) (by omega) (by omega)
  obtain ⟨e5, q5, b5, l5, u5⟩ := bstep_eq h 8 e4 (by omega) (by omega) (by omega) (by omega)
  obtain ⟨e6, q6, b6, l6, u6⟩ := bstep_eq h 4 e5 (by omega) (by omega) (by omega) (by omega)
  obtain ⟨e7, q7, b7, l7, u7⟩ := bstep_eq h 2 e6 (by omega) (by omega) (by omega) (by omega)
  obtain ⟨e8, q8, b8, l8, u8⟩ := bstep_eq h 1 e7 (by omega) (by omega) (by omega) (by omega)
  unfold Cert.Proof.eOf
  rw [q1, q2, q3, q4, q5, q6, q7, q8, show e8 = n by omega]

/-- The biased scale exponent as a number. -/
def uNat (n : ℕ) : ℕ := if n = 0 then 127 else n - 2

theorem HasExp.uNat_pos {a : EReal} {n : ℕ} (h : HasExp a n) : 1 ≤ uNat n := by
  have := h.low; unfold uNat; split <;> omega

theorem HasExp.uNat_le {a : EReal} {n : ℕ} (h : HasExp a n) : uNat n ≤ 247 := by
  have := h.le; unfold uNat; split <;> omega

theorem HasExp.uOf {a : EReal} {n : ℕ} (h : HasExp a n) : uOf a = BitVec.ofNat 32 (uNat n) := by
  have hn := h.le
  have hl := h.low
  unfold Cert.Proof.uOf
  rw [h.eOf]
  unfold uNat Scalar.select IntOp.cmpi IntOp.subi
  by_cases h0 : n = 0
  · subst h0; rfl
  · have : BitVec.ofNat 32 n ≠ 0#32 := by
      intro hh; have := congrArg BitVec.toNat hh; simp at this; omega
    rw [if_neg h0, if_neg]
    · apply BitVec.eq_of_toNat_eq; simp; omega
    · have hb : (BitVec.ofNat 32 n == 0#32) = false := beq_eq_false_iff_ne.mpr this
      show ¬BitVec.ofBool (BitVec.ofNat 32 n == 0#32) = 1#1
      rw [hb]; decide

/-- The exponent of a magnitude (zero where it has none). -/
def expOf (a : EReal) : ℕ := open Classical in if h : ∃ n, HasExp a n then h.choose else 0

theorem InRange.expOf {a : EReal} (h : InRange a) : HasExp a (expOf a) := by
  have hh := h.hasExp
  unfold Cert.Proof.expOf
  rw [dif_pos hh]
  exact hh.choose_spec

/-- The biased scale exponent of a block with the largest magnitude `a`. -/
def uExp (a : EReal) : ℕ := uNat (expOf a)

theorem InRange.uOf {a : EReal} (h : InRange a) : uOf a = BitVec.ofNat 32 (uExp a) := h.expOf.uOf
theorem InRange.uExp_pos {a : EReal} (h : InRange a) : 1 ≤ uExp a := h.expOf.uNat_pos
theorem InRange.uExp_le {a : EReal} (h : InRange a) : uExp a ≤ 247 := h.expOf.uNat_le

/-- The reference's count of the powers `2 ^ (-126), …, 2 ^ 127` that are not above `a`. -/
theorem HasExp.count {a : EReal} {n : ℕ} (h : HasExp a n) :
    (Finset.univ : Finset (Fin 254)).fold IntOp.addi (0#32)
      (fun q => (Ideal.cmp .ole (pow2 ((q.val : ℤ) - 126)) a).setWidth 32) = BitVec.ofNat 32 n := by
  rw [IndicatorCount.fold_addi_setWidth_eq_card]
  have hn := h.le
  have e : (Finset.univ.filter fun q : Fin 254 => Ideal.cmp .ole (pow2 ((q.val : ℤ) - 126)) a = 1#1)
      = Finset.univ.filter fun q : Fin 254 => q.val < n := by
    refine Finset.filter_congr fun q _ => ?_
    have := h.cmp (q.val + 1) (by omega)
    rw [show (((q.val + 1 : ℕ) : ℤ) - 127) = (q.val : ℤ) - 126 by push_cast; ring] at this
    unfold Ideal.cmp
    by_cases hq : q.val + 1 ≤ n
    · simp [this.mpr hq]; omega
    · simp only [this, hq, decide_false]; constructor
      · intro hh; exact absurd hh (by decide)
      · intro hh; omega
  rw [e, Fin.card_filter_val_lt]
  congr 1; omega

end Cert.Proof

end
-- ==== Proof.MainMax.lean ====
/- The main kernel's block maxima: one magnitude per row and block of 32 columns, with zero beyond the 80 blocks. -/
module

public import proofs.«01_k».proof.Proof.Gen.MainIdeal.Skeleton
public import Idealize.ShloMosaic.Lib.Pointwise
public import Idealize.ShloMosaic.Lib.Pipeline.ValueKit

@[expose] public section

set_option maxRecDepth 16384

noncomputable section

namespace Cert.Proof

open Cert.MainIdeal Cert.MainIdeal.Gen Idealize.ShloMosaic Idealize.ShloMosaic.TcCoe Idealize.SL.Sem

/-- The largest magnitude of 32 values. -/
def absMax (f : Fin 32 → EReal) : EReal := (Finset.univ : Finset (Fin 32)).fold max ⊥ fun k => max (f k) (-f k)

/-- The block maxima of 256 columns. -/
theorem pay3_apply (v : FVec Ideal S512x256 .bf16) (g : Fin 8) (r : Fin 512) :
    k0_pay3 (F := Ideal) v (ix2 g r) = absMax fun k => v (ix2 r ⟨32 * g.val + k.val, by omega⟩) := by
  unfold k0_pay3 absMax
  pointwise
  have e : Ideal.ofBits FTy.bf16 65408#16 = ⊥ := by
    simp only [Ideal.ofBits]
    unfold Ideal.ieee
    have e1 : ((65408#16).extractLsb' (8 + 7) 1 == 1#1) = true := by decide
    have e2 : ((65408#16).extractLsb' 7 8).toNat = 255 := by decide
    have e3 : ((65408#16).extractLsb' 0 7).toNat = 0 := by decide
    simp only [e1, e2, e3]
    norm_num
  rw [e]
  refine congrArg (fun f => Finset.fold max ⊥ f Finset.univ) (funext fun k => ?_)
  rw [show (⟨g.val * 32 + k.val, by omega⟩ : Fin 256) = ⟨32 * g.val + k.val, by omega⟩ from Fin.ext (by simp only; omega)]
  rfl

/-- Columns `o …` of a block, read as 256 columns. -/
theorem ld_cols (X : Vec Ideal S512x2560 .bf16) (o : ℕ) (inb) (r : Fin 512) (k : Fin 256) (ho : o + 256 ≤ 2560) :
    View.ld X (Rect.unit ![0, o] ![512, 256] inb) (ix2 r k) = X (ix2 r ⟨o + k.val, by omega⟩) := by
  refine congrArg X (funext fun a => ?_)
  match a with
  | ⟨0, _⟩ => exact Fin.ext ((Rect.idx_unit_val ..).trans (Nat.zero_add _))
  | ⟨1, _⟩ => exact Fin.ext (Rect.idx_unit_val ..)

/-- The magnitudes of a block of 512 rows, one per row and block of 32 columns; zero beyond the 80 blocks. -/
def magV (X : Vec Ideal S512x2560 .bf16) : FVec Ideal S512x128 .f32 :=
  k0_pay10 (F := Ideal) (k0_pay3 (View.ld X (Rect.unit ![0, 0] ![512, 256] inb_S512x2560_S512x256_0_0)))
    (k0_pay4 (View.ld X (Rect.unit ![0, 256] ![512, 256] inb_S512x2560_S512x256_0_256)))
    (k0_pay5 (View.ld X (Rect.unit ![0, 512] ![512, 256] inb_S512x2560_S512x256_0_512)))
    (k0_pay6 (View.ld X (Rect.unit ![0, 768] ![512, 256] inb_S512x2560_S512x256_0_768)))
    (k0_pay7 (View.ld X (Rect.unit ![0, 1024] ![512, 256] inb_S512x2560_S512x256_0_1024)))
    (k0_pay8 (View.ld X (Rect.unit ![0, 1280] ![512, 256] inb_S512x2560_S512x256_0_1280)))
    (k0_pay9 (View.ld X (Rect.unit ![0, 1536] ![512, 256] inb_S512x2560_S512x256_0_1536)))
    (View.ld X (Rect.unit ![0, 1792] ![512, 256] inb_S512x2560_S512x256_0_1792))
    (View.ld X (Rect.unit ![0, 2048] ![512, 256] inb_S512x2560_S512x256_0_2048))
    (View.ld X (Rect.unit ![0, 2304] ![512, 256] inb_S512x2560_S512x256_0_2304))

/-- The exponents after the bisection's first step, and where the second step's power of two is not above the magnitude. -/
def step1 (X : Vec Ideal S512x2560 .bf16) : IVec S512x128 32 :=
  k0_pay11 (F := Ideal) (k0_pay3 (View.ld X (Rect.unit ![0, 0] ![512, 256] inb_S512x2560_S512x256_0_0)))
    (k0_pay4 (View.ld X (Rect.unit ![0, 256] ![512, 256] inb_S512x2560_S512x256_0_256)))
    (k0_pay5 (View.ld X (Rect.unit ![0, 512] ![512, 256] inb_S512x2560_S512x256_0_512)))
    (k0_pay6 (View.ld X (Rect.unit ![0, 768] ![512, 256] inb_S512x2560_S512x256_0_768)))
    (k0_pay7 (View.ld X (Rect.unit ![0, 1024] ![512, 256] inb_S512x2560_S512x256_0_1024)))
    (k0_pay8 (View.ld X (Rect.unit ![0, 1280] ![512, 256] inb_S512x2560_S512x256_0_1280)))
    (k0_pay9 (View.ld X (Rect.unit ![0, 1536] ![512, 256] inb_S512x2560_S512x256_0_1536)))
    (View.ld X (Rect.unit ![0, 1792] ![512, 256] inb_S512x2560_S512x256_0_1792))
    (View.ld X (Rect.unit ![0, 2048] ![512, 256] inb_S512x2560_S512x256_0_2048))
    (View.ld X (Rect.unit ![0, 2304] ![512, 256] inb_S512x2560_S512x256_0_2304))
def step2 (X : Vec Ideal S512x2560 .bf16) : IVec S512x128 1 :=
  k0_pay12 (F := Ideal) (k0_pay3 (View.ld X (Rect.unit ![0, 0] ![512, 256] inb_S512x2560_S512x256_0_0)))
    (k0_pay4 (View.ld X (Rect.unit ![0, 256] ![512, 256] inb_S512x2560_S512x256_0_256)))
    (k0_pay5 (View.ld X (Rect.unit ![0, 512] ![512, 256] inb_S512x2560_S512x256_0_512)))
    (k0_pay6 (View.ld X (Rect.unit ![0, 768] ![512, 256] inb_S512x2560_S512x256_0_768)))
    (k0_pay7 (View.ld X (Rect.unit ![0, 1024] ![512, 256] inb_S512x2560_S512x256_0_1024)))
    (k0_pay8 (View.ld X (Rect.unit ![0, 1280] ![512, 256] inb_S512x2560_S512x256_0_1280)))
    (k0_pay9 (View.ld X (Rect.unit ![0, 1536] ![512, 256] inb_S512x2560_S512x256_0_1536)))
    (View.ld X (Rect.unit ![0, 1792] ![512, 256] inb_S512x2560_S512x256_0_1792))
    (View.ld X (Rect.unit ![0, 2048] ![512, 256] inb_S512x2560_S512x256_0_2048))
    (View.ld X (Rect.unit ![0, 2304] ![512, 256] inb_S512x2560_S512x256_0_2304))

/-- The magnitudes, as the transposed stack of the ten groups of eight. -/
theorem pay10_eq (x0 x1 x2 x3 x4 x5 x6 x7 x8 x9 : Vec Ideal S512x256 .bf16) :
    k0_pay10 (F := Ideal) (k0_pay3 x0) (k0_pay4 x1) (k0_pay5 x2) (k0_pay6 x3) (k0_pay7 x4) (k0_pay8 x5) (k0_pay9 x6) x7 x8 x9 =
    transpose S512x128 [1, 0] (concatenate (α := EReal) S128x512 0 [⟨S8x512, k0_pay3 (F := Ideal) x0⟩, ⟨S8x512, k0_pay3 (F := Ideal) x1⟩, ⟨S8x512, k0_pay3 (F := Ideal) x2⟩,
      ⟨S8x512, k0_pay3 (F := Ideal) x3⟩, ⟨S8x512, k0_pay3 (F := Ideal) x4⟩, ⟨S8x512, k0_pay3 (F := Ideal) x5⟩, ⟨S8x512, k0_pay3 (F := Ideal) x6⟩, ⟨S8x512, k0_pay3 (F := Ideal) x7⟩,
      ⟨S8x512, k0_pay3 (F := Ideal) x8⟩, ⟨S8x512, k0_pay3 (F := Ideal) x9⟩, ⟨S48x512, fun _ => Ideal.ofBits .bf16 0x0000#16⟩]
      concatenates_S8x512_S8x512_S8x512_S8x512_S8x512_S8x512_S8x512_S8x512_S8x512_S8x512_S48x512_S128x512_d0) transposes_S128x512_p1_0_S512x128 := rfl

theorem dite_both {α : Sort*} {p : Prop} [Decidable p] {a : p → α} {b : ¬p → α} {v : α} (h1 : ∀ h, a h = v) (h2 : ∀ h, b h = v) :
    dite p a b = v := by
  by_cases h : p
  · rw [dif_pos h]; exact h1 h
  · rw [dif_neg h]; exact h2 h

theorem magV_apply (X : Vec Ideal S512x2560 .bf16) (r : Fin 512) (c : Fin 80) :
    magV X (ix2 r ⟨c.val, by omega⟩) = absMax fun k => X (ix2 r ⟨32 * c.val + k.val, by omega⟩) := by
  unfold magV
  rw [pay10_eq]
  pointwise
  simp only [pay3_apply]
  have key : ∀ (o : ℕ) (inb) (g : ℕ) (hg : g < 8), 32 * c.val = o + 32 * g →
      (absMax fun k => View.ld X (Rect.unit ![0, o] ![512, 256] inb) (ix2 r ⟨32 * g + k.val, by omega⟩))
        = absMax fun k => X (ix2 r ⟨32 * c.val + k.val, by omega⟩) := by
    intro o inb g hg hc
    refine congrArg absMax (funext fun k => ?_)
    rw [ld_cols X o inb r _ (by have := inb 1; exact this)]
    refine congrArg (fun q => X (ix2 r q)) (Fin.ext ?_)
    show o + (32 * g + k.val) = 32 * c.val + k.val
    omega
  iterate 10 refine dite_both (fun h => key _ _ _ (by omega) (by omega)) (fun h => ?_)
  exfalso; omega

theorem magV_apply_high (X : Vec Ideal S512x2560 .bf16) (r : Fin 512) (c : Fin 128) (hc : 80 ≤ c.val) : magV X (ix2 r c) = 0 := by
  unfold magV
  rw [pay10_eq]
  pointwise
  iterate 10 refine dite_both (fun h => absurd h (by omega)) (fun h => ?_)
  rfl

end Cert.Proof
end
-- ==== Proof.MainReference.lean ====
/- What the reference computes of each row, from the largest magnitude of each block of 32 columns. -/
module

public import proofs.«01_k».proof.Proof.Clip
public import proofs.«01_k».proof.Proof.Exponent
public import proofs.«01_k».proof.Proof.MainMax
public import proofs.«01_k».proof.Proof.Gen.MainRefIdeal.Read
public import Idealize.ShloMosaic.Lib.Pointwise

@[expose] public section

set_option maxRecDepth 16384

noncomputable section

namespace Cert.Proof

open Cert.MainRefIdeal Cert.MainRefIdeal.Gen Cert.MainRefIdeal.Read Idealize.ShloMosaic Idealize.ShloMosaic.TcCoe Idealize.SL.Sem

/-! ## Small words and powers of two -/

theorem word_sub (a b c : BitVec 32) : a + b - c - b = a - c := by grind
theorem word_neg (a b : BitVec 32) : -(a - b) = b - a := by grind
theorem word_cancel (a b : BitVec 32) : a - b + b = a := by grind

theorem toInt_sub (a b : ℕ) (ha : a < 1024) (hb : b < 1024) :
    (BitVec.ofNat 32 a - BitVec.ofNat 32 b).toInt = (a : ℤ) - (b : ℤ) := by
  have h : ∀ n : ℕ, n < 1024 → (BitVec.ofNat 32 n).toInt = (n : ℤ) := by
    intro n hn
    have hN : (BitVec.ofNat 32 n).toNat = n := by rw [BitVec.toNat_ofNat]; exact Nat.mod_eq_of_lt (by norm_num; omega)
    rw [BitVec.toInt_eq_toNat_of_lt (by rw [hN]; norm_num; omega), hN]
  rw [BitVec.toInt_sub, h a ha, h b hb]
  exact Int.bmod_eq_of_le (by norm_num; omega) (by norm_num; omega)

theorem ofBits_two : Ideal.ofBits .f32 0x40000000#32 = pow2 1 := by
  have e : (0x40000000#32 : BitVec 32) = BitVec.ofNat 32 128 <<< 23 := by decide
  rw [e, ofBits_f32 128 (by norm_num) (by norm_num)]
  norm_num

/-- A power of two with an integer exponent. -/
theorem pow_two (n : ℤ) : Ideal.pow (pow2 1) ((n : ℝ) : EReal) = pow2 n := by
  unfold pow2
  show ((Real.rpow ((2 : ℝ) ^ (1 : ℤ)) (n : ℝ) : ℝ) : EReal) = _
  rw [zpow_one]
  exact congrArg _ (Real.rpow_intCast 2 n)

theorem ofBits_bot : Ideal.ofBits .f32 0xFF800000#32 = ⊥ := by
  simp only [Ideal.ofBits]
  unfold Ideal.ieee
  have e1 : ((0xFF800000#32).extractLsb' (8 + 23) 1 == 1#1) = true := by decide
  have e2 : ((0xFF800000#32).extractLsb' 23 8).toNat = 255 := by decide
  have e3 : ((0xFF800000#32).extractLsb' 0 23).toNat = 0 := by decide
  simp only [e1, e2, e3]
  norm_num

theorem ofBits_zero : Ideal.ofBits .f32 0x00000000#32 = 0 := by
  simp only [Ideal.ofBits]
  unfold Ideal.ieee
  have e1 : ((0x00000000#32).extractLsb' (8 + 23) 1 == 1#1) = false := by decide
  have e2 : ((0x00000000#32).extractLsb' 23 8).toNat = 0 := by decide
  have e3 : ((0x00000000#32).extractLsb' 0 23).toNat = 0 := by decide
  simp only [e1, e2, e3]
  norm_num

/-! ## Rows and blocks -/

/-- Column `k` of row `R`, of the 12288 rows of all batches. -/
def rowX (x : Vec Ideal S24x512x2560 .bf16) (R : Fin 12288) (k : Fin 2560) : EReal :=
  x (ix3 ⟨R.val / 512, by omega⟩ ⟨R.val % 512, by omega⟩ k)

/-- The largest magnitude of block `c` of row `R`. -/
def magR (x : Vec Ideal S24x512x2560 .bf16) (R : Fin 12288) (c : Fin 80) : EReal :=
  absMax fun k => rowX x R ⟨32 * c.val + k.val, by omega⟩

/-- The biased scale exponent of block `c` of row `R`. -/
def uR (x : Vec Ideal S24x512x2560 .bf16) (R : Fin 12288) (c : Fin 80) : ℕ := uExp (magR x R c)

/-- The code of column `k` of row `R`. -/
def codeR (x : Vec Ideal S24x512x2560 .bf16) (R : Fin 12288) (k : Fin 2560) : EReal :=
  clip (rowX x R k * pow2 (127 - (uR x R ⟨k.val / 32, by omega⟩ : ℤ)))

/-- The dequantised value of column `k` of row `R`. -/
def xdR (x : Vec Ideal S24x512x2560 .bf16) (R : Fin 12288) (k : Fin 2560) : EReal :=
  codeR x R k * pow2 ((uR x R ⟨k.val / 32, by omega⟩ : ℤ) - 127)

theorem v1_apply (x : Vec Ideal S24x512x2560 .bf16) (R : Fin 12288) (c : Fin 80) (k : Fin 32) :
    val_main_v1 (F := Ideal) x (ix3 R c k) = rowX x R ⟨32 * c.val + k.val, by omega⟩ := by
  rw [val_main_v1_apply]
  refine congrArg x (funext fun a => ?_)
  match a with
  | ⟨0, _⟩ => exact Fin.ext (show ((R.val * 80 + c.val) * 32 + k.val) / 1310720 = R.val / 512 by omega)
  | ⟨1, _⟩ => exact Fin.ext (show ((R.val * 80 + c.val) * 32 + k.val) / 2560 % 512 = R.val % 512 by omega)
  | ⟨2, _⟩ => exact Fin.ext (show ((R.val * 80 + c.val) * 32 + k.val) % 2560 = 32 * c.val + k.val by omega)

/-- The block maxima. -/
theorem v3_apply (x : Vec Ideal S24x512x2560 .bf16) (R : Fin 12288) (c : Fin 80) :
    val_main_v3 (F := Ideal) x (ix2 R c) = magR x R c := by
  have h2 : ∀ k : Fin 32, val_main_v2 (F := Ideal) x (ix3 R c k)
      = max (rowX x R ⟨32 * c.val + k.val, by omega⟩) (-(rowX x R ⟨32 * c.val + k.val, by omega⟩)) := by
    intro k
    rw [val_main_v2_apply, v1_apply]
    rfl
  unfold val_main_v3
  generalize val_main_v2 (F := Ideal) x = y at h2 ⊢
  have hc : val_main_cst (F := Ideal) = fun _ => ⊥ := funext fun _ => ofBits_bot
  rw [hc]
  pointwise
  simp only [h2]
  rfl

/-- The powers of two from `2 ^ (-126)` on. -/
theorem v9_apply (q : Fin 254) : val_main_v9 (F := Ideal) (ix1 q) = pow2 ((q.val : ℤ) - 126) := by
  rw [val_main_v9_apply, val_main_v8_apply, val_main_cst_0_apply, val_main_v7_apply, val_main_v6_apply, val_main_v5_apply,
    val_main_c_apply, val_main_v4_apply]
  show Ideal.pow (Ideal.ofBits .f32 0x40000000#32) (((BitVec.ofNat 32 q.val - BitVec.ofNat 32 126).toInt : ℝ) : EReal) = _
  rw [ofBits_two, toInt_sub _ _ (by omega) (by omega)]
  exact pow_two ((q.val : ℤ) - (126 : ℕ))

/-- Each row's block is in range. -/
def RowsOK (x : Vec Ideal S24x512x2560 .bf16) : Prop := ∀ R c, InRange (magR x R c)

section
variable {x : Vec Ideal S24x512x2560 .bf16} (hX : RowsOK x)

theorem v15_apply (x : Vec Ideal S24x512x2560 .bf16) (R : Fin 12288) (c : Fin 80) (q : Fin 254) :
    val_main_v15 (F := Ideal) x (ix3 R c q) = (Ideal.cmp .ole (pow2 ((q.val : ℤ) - 126)) (magR x R c)).setWidth 32 := by
  rw [val_main_v15_apply, val_main_v14_apply, val_main_v12_apply, val_main_v11_apply, val_main_v13_apply, val_main_v10_apply,
    show idx_main_v11 (idx_main_v12 (ix3 R c q)) = ix1 q from funext fun a => match a with | ⟨0, _⟩ => rfl, v9_apply,
    show idx_main_v10 (idx_main_v13 (ix3 R c q)) = ix2 R c from funext fun a => match a with
      | ⟨0, _⟩ => rfl
      | ⟨1, _⟩ => rfl, v3_apply]
  rfl

include hX

/-- The exponent, counted. -/
theorem v16_apply (R : Fin 12288) (c : Fin 80) : val_main_v16 (F := Ideal) x (ix2 R c) = BitVec.ofNat 32 (expOf (magR x R c)) := by
  have h := v15_apply x R c
  unfold val_main_v16
  generalize val_main_v15 (F := Ideal) x = y at h ⊢
  have hred : S12288x80x254.Reduces [2] S12288x80 := by decide
  have hf : (y ∘ hred.lift (ix2 R c)) = fun q : Fin 254 => (Ideal.cmp .ole (pow2 ((q.val : ℤ) - 126)) (magR x R c)).setWidth 32 := by
    funext q
    rw [← h q]
    refine congrArg y (funext fun a => ?_)
    match a with
    | ⟨0, _⟩ => rfl
    | ⟨1, _⟩ => rfl
    | ⟨2, _⟩ => rfl
  have hc := (hX R c).expOf.count
  generalize expOf (magR x R c) = n at hc ⊢
  have e := Host.reduce_eq_fold_single IntOp.addi y (val_main_c_1 (F := Ideal)) reducesTo_S12288x80x254_S12288x80_d2 hred h_S_ (ix2 R c)
  refine e.trans ?_
  rw [hf]
  exact hc

/-- The scale exponent. -/
theorem v23_apply (R : Fin 12288) (c : Fin 80) :
    val_main_v23 (F := Ideal) x (ix2 R c) = BitVec.ofNat 32 (uR x R c) - BitVec.ofNat 32 127 := by
  have hE := (hX R c).expOf
  rw [val_main_v23_apply, val_main_v20_apply, v3_apply, val_main_v19_apply, val_main_cst_3_apply, val_main_call0_v1_apply,
    val_main_call0_v0_apply, val_main_c_5_apply, val_main_v22_apply, val_main_v18_apply, v16_apply hX, val_main_v17_apply,
    val_main_c_2_apply, val_main_v21_apply, val_main_c_4_apply]
  have hz := hE.zero
  have hl := hE.low
  have hn := hE.le
  unfold uR uExp uNat
  generalize expOf (magR x R c) = n at *
  generalize magR x R c = a at *
  show Scalar.select (Ideal.cmp .oeq a (Ideal.ofBits .f32 0x00000000#32)) (0#32) (BitVec.ofNat 32 n - 127#32 - 2#32) = _
  rw [ofBits_zero]
  unfold Scalar.select Ideal.cmp
  by_cases h0 : n = 0
  · rw [if_pos h0]
    simp [hz.mpr h0]
  · rw [if_neg h0]
    have ha : ¬ a = 0 := fun h => h0 (hz.mp h)
    simp [ha]
    obtain ⟨k, rfl⟩ : ∃ k, n = k + 2 := ⟨n - 2, by omega⟩
    rw [Nat.add_sub_cancel, BitVec.ofNat_add]
    exact word_sub _ _ _

/-- The stored scale. -/
theorem v46_apply (R : Fin 12288) (c : Fin 80) :
    val_main_v46 (F := Ideal) x (ix2 R c) = (BitVec.ofNat 32 (uR x R c)).setWidth 8 := by
  rw [val_main_v46_apply, val_main_v45_apply, v23_apply hX, val_main_v44_apply, val_main_c_10_apply]
  show (BitVec.ofNat 32 (uR x R c) - BitVec.ofNat 32 127 + BitVec.ofNat 32 127).setWidth 8 = _
  rw [word_cancel]

/-- The scale. -/
theorem v26_apply (R : Fin 12288) (c : Fin 80) : val_main_v26 (F := Ideal) x (ix2 R c) = pow2 ((uR x R c : ℤ) - 127) := by
  have hu : uR x R c ≤ 247 := (hX R c).uExp_le
  rw [val_main_v26_apply, val_main_v25_apply, val_main_cst_6_apply, val_main_v24_apply, v23_apply hX]
  show Ideal.pow (Ideal.ofBits .f32 0x40000000#32) (((BitVec.ofNat 32 (uR x R c) - BitVec.ofNat 32 127).toInt : ℝ) : EReal) = _
  rw [ofBits_two, toInt_sub _ _ (by omega) (by omega)]
  exact pow_two ((uR x R c : ℤ) - (127 : ℕ))

/-- The scale's inverse. -/
theorem v30_apply (R : Fin 12288) (c : Fin 80) : val_main_v30 (F := Ideal) x (ix2 R c) = pow2 (127 - (uR x R c : ℤ)) := by
  have hu : uR x R c ≤ 247 := (hX R c).uExp_le
  rw [val_main_v30_apply, val_main_v29_apply, val_main_cst_7_apply, val_main_v28_apply, val_main_v27_apply, v23_apply hX, word_neg]
  show Ideal.pow (Ideal.ofBits .f32 0x40000000#32) (((BitVec.ofNat 32 127 - BitVec.ofNat 32 (uR x R c)).toInt : ℝ) : EReal) = _
  rw [ofBits_two, toInt_sub _ _ (by omega) (by omega)]
  exact pow_two (((127 : ℕ) : ℤ) - uR x R c)

/-- The codes. -/
theorem v34_apply (R : Fin 12288) (c : Fin 80) (k : Fin 32) :
    val_main_v34 (F := Ideal) x (ix3 R c k) = codeR x R ⟨32 * c.val + k.val, by omega⟩ := by
  rw [val_main_v34_apply, val_main_call1_v4_apply, val_main_call1_v3_apply, val_main_cst_9_apply, val_main_call1_v2_apply,
    val_main_call1_v1_apply, val_main_call1_v0_apply, val_main_cst_8_apply, val_main_v33_apply, v1_apply, val_main_v32_apply,
    val_main_v31_apply]
  have h := v30_apply hX R c
  rw [show idx_main_v31 (idx_main_v32 (ix3 R c k)) = ix2 R c from funext fun a => match a with
    | ⟨0, _⟩ => rfl
    | ⟨1, _⟩ => rfl, h]
  unfold codeR
  rw [show (⟨(⟨32 * c.val + k.val, by omega⟩ : Fin 2560).val / 32, by omega⟩ : Fin 80) = c from Fin.ext (show (32 * c.val + k.val) / 32 = c.val by omega)]
  rfl

omit hX in
theorem idx41 (R : Fin 12288) (k : Fin 2560) :
    idx_main_v41 (ix2 R k) = ix3 R (⟨k.val / 32, by omega⟩ : Fin 80) (⟨k.val % 32, by omega⟩ : Fin 32) := funext fun a => match a with
  | ⟨0, _⟩ => Fin.ext (show (R.val * 2560 + k.val) / 2560 = R.val by omega)
  | ⟨1, _⟩ => Fin.ext (show (R.val * 2560 + k.val) / 32 % 80 = k.val / 32 by omega)
  | ⟨2, _⟩ => Fin.ext (show (R.val * 2560 + k.val) % 32 = k.val % 32 by omega)

theorem v47_apply (R : Fin 12288) (k : Fin 2560) : val_main_v47 (F := Ideal) x (ix2 R k) = codeR x R k := by
  rw [val_main_v47_apply, show idx_main_v47 (ix2 R k) = _ from idx41 R k, val_main_v35_apply, v34_apply hX]
  exact congrArg (codeR x R) (Fin.ext (Nat.div_add_mod k.val 32))

/-- The dequantised values. -/
theorem v41_apply (R : Fin 12288) (k : Fin 2560) : val_main_v41 (F := Ideal) x (ix2 R k) = xdR x R k := by
  have h := v26_apply hX R ⟨k.val / 32, by omega⟩
  rw [val_main_v41_apply, idx41, val_main_v40_apply, val_main_v36_apply, v34_apply hX, val_main_v39_apply, val_main_v38_apply, val_main_v37_apply]
  rw [show idx_main_v38 (idx_main_v39 (ix3 R (⟨k.val / 32, by omega⟩ : Fin 80) (⟨k.val % 32, by omega⟩ : Fin 32))) = ix2 R (⟨k.val / 32, by omega⟩ : Fin 80) from
    funext fun a => match a with
    | ⟨0, _⟩ => rfl
    | ⟨1, _⟩ => rfl, h]
  unfold xdR
  rw [show (⟨32 * (⟨k.val / 32, by omega⟩ : Fin 80).val + (⟨k.val % 32, by omega⟩ : Fin 32).val, by omega⟩ : Fin 2560) = k from Fin.ext (Nat.div_add_mod k.val 32)]
  rfl

/-- The product. -/
theorem v43_apply (w : Vec Ideal S2560x6912 .bf16) (R : Fin 12288) (q : Fin 6912) :
    val_main_v43 (F := Ideal) x w (ix2 R q) = ∑ k : Fin 2560, xdR x R k * w (ix2 k q) := by
  rw [val_main_v43_apply]
  refine (val_main_v42_apply x w (ix2 R q)).trans (Finset.sum_congr rfl fun k _ => ?_)
  rw [← v41_apply hX R k]
  refine congrArg₂ (· * ·) (congrArg _ (funext fun a => ?_)) (congrArg w (funext fun a => ?_))
  · match a with
    | ⟨0, _⟩ => rfl
    | ⟨1, _⟩ => rfl
  · match a with
    | ⟨0, _⟩ => rfl
    | ⟨1, _⟩ => rfl

end

end Cert.Proof
end
-- ==== Proof.MainPre.lean ====
/- The precondition, read: the largest magnitude of each block of 32 values is zero, or from `2 ^ (-124)` to below `2 ^ 123`. -/
module

public import proofs.«01_k».proof.Proof.MainReference
public import proofs.«01_k».proof.Pre_blocks_in_range

@[expose] public section

set_option maxRecDepth 16384

noncomputable section

namespace Cert.Proof

open Cert.MainRefIdeal Cert.MainRefIdeal.Gen Cert.MainRefIdeal.Read Idealize.ShloMosaic Idealize.ShloMosaic.TcCoe Idealize.SL.Sem

theorem preFacts : Cert.Pre_blocks_in_range.Facts where
  bitsLt_bf16_f32 := bitsLt_bf16_f32
  shapeCasts_S24x512x2560_S12288x80x32 := shapeCasts_S24x512x2560_S12288x80x32
  reducesTo_S12288x80x32_S12288x80_d2 := reducesTo_S12288x80x32_S12288x80_d2
  h_S_ := h_S_
  bcast_S_S12288x80 := bcast_S_S12288x80

theorem ofBits_low : Ideal.ofBits .f32 0x01800000#32 = pow2 (-124) := by
  have e : (0x01800000#32 : BitVec 32) = BitVec.ofNat 32 3 <<< 23 := by decide
  rw [e, ofBits_f32 3 (by norm_num) (by norm_num)]
  norm_num

theorem ofBits_high : Ideal.ofBits .f32 0x7D000000#32 = pow2 123 := by
  have e : (0x7D000000#32 : BitVec 32) = BitVec.ofNat 32 250 <<< 23 := by decide
  rw [e, ofBits_f32 250 (by norm_num) (by norm_num)]
  norm_num

theorem inRange_of_words (a : EReal)
    (h : IntOp.ori (Ideal.cmp .oeq a (Ideal.ofBits .f32 0x00000000#32))
      (IntOp.andi (Ideal.cmp .oge a (Ideal.ofBits .f32 0x01800000#32)) (Ideal.cmp .olt a (Ideal.ofBits .f32 0x7D000000#32))) = 1#1) :
    InRange a := by
  rw [ofBits_zero, ofBits_low, ofBits_high] at h
  by_cases h0 : a = 0
  · exact Or.inl h0
  refine Or.inr ⟨?_, ?_⟩
  · by_contra hl
    simp [IntOp.ori, IntOp.andi, Ideal.cmp, h0, hl] at h
  · by_contra hl
    simp [IntOp.ori, IntOp.andi, Ideal.cmp, h0, hl] at h

theorem bcast_const (b : BitVec 32) (i : S12288x80.Idx) :
    broadcastInDim S12288x80 ![] bcast_S_S12288x80 (constant (F := Ideal) S_ .f32 b) i = Ideal.ofBits .f32 b :=
  broadcastInDim_apply _ bcast_S_S12288x80 _ i (fun a => a.elim0) (fun a => a.elim0)

theorem ori_read (a b : IVec S12288x80 1) (i : S12288x80.Idx) : ori a b i = IntOp.ori (a i) (b i) := rfl
theorem andi_read (a b : IVec S12288x80 1) (i : S12288x80.Idx) : andi a b i = IntOp.andi (a i) (b i) := rfl
theorem cmpf_read (p : CmpFPredicate) (a b : FVec Ideal S12288x80 .f32) (i : S12288x80.Idx) : cmpf p a b i = Ideal.cmp p (a i) (b i) := rfl

theorem rowsOK_of_pre [hp : Cert.Pre_blocks_in_range.Facts] (x : Vec Ideal S24x512x2560 .bf16) (w : Vec Ideal S2560x6912 .bf16)
    (h : Cert.Pre_blocks_in_range.fn (F := Ideal) x w = fun _ => 1#1) : RowsOK x := by
  intro R c
  have h' := congrFun h (ix2 R c)
  unfold Cert.Pre_blocks_in_range.fn at h'
  dsimp only at h'
  have e := v3_apply x R c
  unfold val_main_v3 val_main_v2 val_main_v1 val_main_v0 val_main_cst at e
  generalize Host.reduce _ _ _ _ _ = y at h' e
  rw [ori_read, andi_read, cmpf_read, cmpf_read, cmpf_read] at h'
  rw [e, bcast_const, bcast_const, bcast_const] at h'
  exact inRange_of_words _ h'

end Cert.Proof
end
-- ==== Proof.Words.lean ====
/- Two scale factors' 16-bit patterns side by side in one 32-bit word. -/
module

public import proofs.«01_k».proof.Proof.Powers

@[expose] public section

noncomputable section

namespace Cert.Proof

open Idealize.ShloMosaic

theorem toNat_halves (a b : BitVec 16) : (a ++ b).toNat = a.toNat * 65536 + b.toNat := by
  rw [BitVec.toNat_append, ← Nat.shiftLeft_add_eq_or_of_lt b.isLt, Nat.shiftLeft_eq]

theorem extract_low (a b : BitVec 16) : (a ++ b).extractLsb' 0 16 = b := by
  apply BitVec.eq_of_toNat_eq
  have hb := b.isLt
  rw [BitVec.extractLsb'_toNat, toNat_halves, Nat.shiftRight_zero]
  omega

theorem extract_high (a b : BitVec 16) : (a ++ b).extractLsb' 16 16 = a := by
  apply BitVec.eq_of_toNat_eq
  have hb := b.isLt
  have ha := a.isLt
  rw [BitVec.extractLsb'_toNat, toNat_halves, Nat.shiftRight_eq_div_pow]
  omega

/-- Where both halves are at most `0x7C00`, the word `0x7C007C00` less a pair of halves has no borrow between the halves. -/
theorem sub_append (a b : BitVec 16) (ha : a.toNat ≤ 31744) (hb : b.toNat ≤ 31744) :
    (2080406528#32 : BitVec 32) - (a ++ b : BitVec (16 + 16)) = ((31744#16 - a) ++ (31744#16 - b) : BitVec (16 + 16)) := by
  apply BitVec.eq_of_toNat_eq
  have e : ∀ c : BitVec 16, c.toNat ≤ 31744 → (31744#16 - c).toNat = 31744 - c.toNat := by
    intro c hc
    rw [BitVec.toNat_sub_of_le]
    · rfl
    · rw [BitVec.le_def]; exact hc
  rw [toNat_halves, e a ha, e b hb]
  have hle : (a ++ b : BitVec (16 + 16)) ≤ (2080406528#32 : BitVec 32) := by
    rw [BitVec.le_def, toNat_halves]
    have : (2080406528#32 : BitVec 32).toNat = 2080406528 := rfl
    rw [this]; omega
  rw [BitVec.toNat_sub_of_le hle, toNat_halves]
  have : (2080406528#32 : BitVec 32).toNat = 2080406528 := rfl
  rw [this]; omega

theorem half_toNat (n : ℕ) (hn : n ≤ 247) : (BitVec.ofNat 16 (n * 128)).toNat = n * 128 := by
  rw [BitVec.toNat_ofNat]; omega

theorem half_eq (n : ℕ) (hn : n ≤ 247) :
    (IntOp.shli .vector (BitVec.ofNat 32 n) 7#32).setWidth 16 = BitVec.ofNat 16 (n * 128) := by
  rw [show IntOp.shli .vector (BitVec.ofNat 32 n) 7#32 = BitVec.ofNat 32 n <<< 7 from shli_vector _ 7 (by omega)]
  apply BitVec.eq_of_toNat_eq
  rw [half_toNat n hn, BitVec.toNat_setWidth, BitVec.toNat_shiftLeft, BitVec.toNat_ofNat, Nat.shiftLeft_eq]
  omega

theorem inv_half (n : ℕ) (hn1 : 1 ≤ n) (hn : n ≤ 247) :
    Ideal.ofBits .bf16 (31744#16 - BitVec.ofNat 16 (n * 128)) = pow2 (121 - (n : ℤ)) := by
  have e : 31744#16 - BitVec.ofNat 16 (n * 128) = BitVec.ofNat 16 ((248 - n) * 128) := by
    apply BitVec.eq_of_toNat_eq
    rw [BitVec.toNat_sub_of_le]
    · rw [half_toNat n hn, BitVec.toNat_ofNat, BitVec.toNat_ofNat]; omega
    · rw [BitVec.le_def, half_toNat n hn, BitVec.toNat_ofNat]; omega
  rw [e, ofBits_bf16 _ (by omega) (by omega)]
  congr 1; omega

end Cert.Proof

end
-- ==== Proof.MainTile.lean ====
/- One tile of 128 columns of the main kernel: its scale words, its codes and its dequantised values. -/
module

public import proofs.«01_k».proof.Proof.Exponent
public import proofs.«01_k».proof.Proof.Words
public import proofs.«01_k».proof.Proof.Clip
public import proofs.«01_k».proof.Proof.Gen.MainIdeal.Skeleton
public import Idealize.ShloMosaic.Lib.Pointwise
public import Idealize.ShloMosaic.Lib.BitcastPair

@[expose] public section

set_option maxRecDepth 16384

noncomputable section

namespace Cert.Proof

open Cert.MainIdeal Cert.MainIdeal.Gen Idealize.ShloMosaic Idealize.ShloMosaic.TcCoe Idealize.SL.Sem

/-- The kernel's biased scale exponents, one per magnitude. -/
def uV (A : FVec Ideal S512x128 .f32) : IVec S512x128 32 := fun j => uOf (A j)

/-- One step of the bisection on a whole vector, as the kernel writes it. -/
def vstep (A : FVec Ideal S512x128 .f32) (b : BitVec 32) (e : IVec S512x128 32) : IVec S512x128 32 :=
  select (cmpf .oge A (bitcastToFloat .f32 (shli (addi e (broadcast S512x128 b)) (broadcast S512x128 23#32))))
    (addi e (broadcast S512x128 b)) e

theorem vstep_apply (A : FVec Ideal S512x128 .f32) (b : BitVec 32) (e : IVec S512x128 32) (j : S512x128.Idx) :
    vstep A b e j = bstep (A j) b (e j) := rfl

theorem pay14_eq (A : FVec Ideal S512x128 .f32) (B : IVec S512x128 32) :
    k0_pay14 A B (cmpf .oge A (bitcastToFloat .f32 (shli (addi B (broadcast S512x128 64#32)) (broadcast S512x128 23#32)))) k0_pay13
      = vstep A 4#32 (vstep A 8#32 (vstep A 16#32 (vstep A 32#32 (vstep A 64#32 B)))) := by
  unfold k0_pay14 k0_pay13 vstep
  rfl

theorem pay17_vec (A : FVec Ideal S512x128 .f32) (D : IVec S512x128 32) :
    k0_pay17 A D (cmpf .oge A (bitcastToFloat .f32 (shli (addi D (broadcast S512x128 2#32)) (broadcast S512x128 23#32)))) k0_pay16
      = select (cmpi .eq (vstep A 1#32 (vstep A 2#32 D)) (broadcast S512x128 0#32)) (broadcast S512x128 127#32)
          (subi (vstep A 1#32 (vstep A 2#32 D)) (broadcast S512x128 2#32)) := by
  unfold k0_pay17 k0_pay16 vstep
  rfl

/-- The bisection of the kernel, all eight steps. -/
theorem pay17_eq (v5 v11 v17 v23 v29 v35 : FVec Ideal S8x512 .bf16) (v38 v42 v48 v54 : FVec Ideal S512x256 .bf16) :
    k0_pay17 (k0_pay10 v5 v11 v17 v23 v29 v35 v38 v42 v48 v54)
      (k0_pay14 (k0_pay10 v5 v11 v17 v23 v29 v35 v38 v42 v48 v54) (k0_pay11 v5 v11 v17 v23 v29 v35 v38 v42 v48 v54)
        (k0_pay12 v5 v11 v17 v23 v29 v35 v38 v42 v48 v54) k0_pay13)
      (k0_pay15 (k0_pay10 v5 v11 v17 v23 v29 v35 v38 v42 v48 v54) (k0_pay11 v5 v11 v17 v23 v29 v35 v38 v42 v48 v54)
        (k0_pay12 v5 v11 v17 v23 v29 v35 v38 v42 v48 v54) k0_pay13) k0_pay16
      = uV (k0_pay10 v5 v11 v17 v23 v29 v35 v38 v42 v48 v54) := by
  have h11 : k0_pay11 v5 v11 v17 v23 v29 v35 v38 v42 v48 v54
      = vstep (k0_pay10 v5 v11 v17 v23 v29 v35 v38 v42 v48 v54) 128#32 (broadcast S512x128 0#32) := rfl
  unfold k0_pay15 k0_pay12
  rw [h11]
  generalize k0_pay10 v5 v11 v17 v23 v29 v35 v38 v42 v48 v54 = A
  refine (pay17_vec A _).trans ?_
  rw [pay14_eq]
  funext j
  show Scalar.select (IntOp.cmpi .eq (vstep _ _ _ j) _) _ (IntOp.subi (vstep _ _ _ j) _) = _
  simp only [vstep_apply]
  rfl

/-- The words that hold, per pair of rows, the two scale factors' patterns. -/
def wordsV (u : IVec S512x128 32) : IVec S256x128 32 :=
  bitcast S256x128 32 (trunci 16 (shli u (broadcast S512x128 7#32)) natLt_16_32) bitcasts_S512x128_w16_S256x128_w32

/-- The words spread over one tile: lane `l` holds the word of block `w + l / 32`. -/
def gatherT (w : BitVec 32) (S : IVec S256x128 32) : IVec S256x128 32 :=
  let v : IVec S256x128 32 := addi (shrsi (iota .tc S256x128 32 [1] iota_S256x128_d1_w32) (broadcast S256x128 5#32)) (broadcast S256x128 w)
  dynamicGather 1 S (shapeCast S256x128 (shapeCast S256x128x1
    (select (cmpi .slt v (broadcast S256x128 0#32)) (addi v (broadcast S256x128 128#32)) v)
    shapeCasts_S256x128_S256x128x1) shapeCasts_S256x128x1_S256x128)

/-- The scale factors of one tile. -/
def stT (w : BitVec 32) (S : IVec S256x128 32) : FVec Ideal S512x128 .bf16 :=
  bitcastToFloat .bf16 (bitcast S512x128 16 (gatherT w S) bitcasts_S256x128_w32_S512x128_w16)

/-- The inverse scale factors of one tile, divided by 64. -/
def invT (w : BitVec 32) (S : IVec S256x128 32) : FVec Ideal S512x128 .bf16 :=
  bitcastToFloat .bf16 (bitcast S512x128 16 (subi (broadcast S256x128 2080406528#32) (gatherT w S)) bitcasts_S256x128_w32_S512x128_w16)

theorem lane_block : ∀ t : Fin 20, ∀ l : Fin 128,
    (let v := IntOp.addi (IntOp.shrsi .vector (BitVec.ofNat 32 l.val) 5#32) (BitVec.ofNat 32 (4 * t.val))
     Scalar.select (IntOp.cmpi .slt v 0#32) (IntOp.addi v 128#32) v).toNat % 128 = 4 * t.val + l.val / 32 := by
  decide +kernel

theorem gatherT_apply (t : Fin 20) (S : IVec S256x128 32) (r : Fin 256) (l : Fin 128) :
    gatherT (BitVec.ofNat 32 (4 * t.val)) S (ix2 r l) = S (ix2 r ⟨4 * t.val + l.val / 32, by omega⟩) := by
  have h := lane_block t l
  unfold gatherT
  pointwise
  exact congrArg (fun q => S (ix2 r q)) (Fin.ext h)

/-- Rows `2 p + 1` and `2 p` of the halves make row `p` of the words. -/
theorem pack_apply (x : IVec S512x128 16) (p : Fin 256) (l : Fin 128) :
    bitcast S256x128 32 x bitcasts_S512x128_w16_S256x128_w32 (ix2 p l)
      = x (ix2 ⟨2 * p.val + 1, by omega⟩ l) ++ x (ix2 ⟨2 * p.val, by omega⟩ l) := by
  rw [bitcast_16_32]
  congr 2
  · funext a
    match a with
    | ⟨0, _⟩ => exact Fin.ext (Shape.Bitcasts.srcIdx_row _ _ _ _ _ rfl)
    | ⟨1, _⟩ => exact Fin.ext (Shape.Bitcasts.srcIdx_other _ _ _ _ _ (show ¬ (1 + 2 = 2) by decide))
  · funext a
    match a with
    | ⟨0, _⟩ => exact Fin.ext (Shape.Bitcasts.srcIdx_row _ _ _ _ _ rfl)
    | ⟨1, _⟩ => exact Fin.ext (Shape.Bitcasts.srcIdx_other _ _ _ _ _ (show ¬ (1 + 2 = 2) by decide))

/-- Row `r` of the halves is the low or the high half of row `r / 2` of the words. -/
theorem unpack_apply (G : IVec S256x128 32) (r : Fin 512) (l : Fin 128) :
    bitcast S512x128 16 G bitcasts_S256x128_w32_S512x128_w16 (ix2 r l)
      = (G (ix2 ⟨r.val / 2, by omega⟩ l)).extractLsb' (16 * (r.val % 2)) 16 := by
  rw [bitcast_32_16]
  refine congrArg (fun q => BitVec.extractLsb' (16 * (r.val % 2)) 16 (G q)) ?_
  funext a
  match a with
  | ⟨0, _⟩ => exact Fin.ext (Shape.Bitcasts.srcIdx_row _ _ _ _ _ rfl)
  | ⟨1, _⟩ => exact Fin.ext (Shape.Bitcasts.srcIdx_other _ _ _ _ _ (show ¬ (1 + 2 = 2) by decide))

section
variable {u : IVec S512x128 32} {U : Fin 512 → Fin 128 → ℕ} (hu : ∀ r l, u (ix2 r l) = BitVec.ofNat 32 (U r l))
  (h1 : ∀ r l, 1 ≤ U r l) (h2 : ∀ r l, U r l ≤ 247) (t : Fin 20) (r : Fin 512) (l : Fin 128)
include hu h1 h2

theorem wordsV_apply (p : Fin 256) (l : Fin 128) :
    wordsV u (ix2 p l) = BitVec.ofNat 16 (U ⟨2 * p.val + 1, by omega⟩ l * 128) ++ BitVec.ofNat 16 (U ⟨2 * p.val, by omega⟩ l * 128) := by
  unfold wordsV
  rw [pack_apply]
  have e : ∀ q, trunci 16 (shli u (broadcast S512x128 7#32)) natLt_16_32 (ix2 q l) = BitVec.ofNat 16 (U q l * 128) := fun q =>
    (congrArg (fun z => (IntOp.shli .vector z 7#32).setWidth 16) (hu q l)).trans (half_eq _ (h2 _ _))
  rw [e, e]

/-- The scale factor of the block that column `128 t + l` lies in. -/
theorem stT_apply : stT (BitVec.ofNat 32 (4 * t.val)) (wordsV u) (ix2 r l)
    = pow2 ((U r ⟨4 * t.val + l.val / 32, by omega⟩ : ℤ) - 127) := by
  show Ideal.ofBits .bf16 (bitcast S512x128 16 _ _ _) = _
  rw [unpack_apply, gatherT_apply, wordsV_apply hu h1 h2]
  obtain hr | hr : r.val % 2 = 0 ∨ r.val % 2 = 1 := by omega
  · rw [hr, extract_low]
    rw [show (⟨2 * (r.val / 2), by omega⟩ : Fin 512) = r from Fin.ext (by simp only; omega)]
    exact ofBits_bf16 _ (h1 _ _) ((h2 _ _).trans (by omega))
  · rw [hr, extract_high]
    rw [show (⟨2 * (r.val / 2) + 1, by omega⟩ : Fin 512) = r from Fin.ext (by simp only; omega)]
    exact ofBits_bf16 _ (h1 _ _) ((h2 _ _).trans (by omega))

/-- Its inverse, divided by 64. -/
theorem invT_apply : invT (BitVec.ofNat 32 (4 * t.val)) (wordsV u) (ix2 r l)
    = pow2 (121 - (U r ⟨4 * t.val + l.val / 32, by omega⟩ : ℤ)) := by
  show Ideal.ofBits .bf16 (bitcast S512x128 16 _ _ _) = _
  rw [unpack_apply]
  show Ideal.ofBits .bf16 ((2080406528#32 - gatherT _ _ _).extractLsb' _ 16) = _
  rw [gatherT_apply, wordsV_apply hu h1 h2, sub_append]
  · obtain hr | hr : r.val % 2 = 0 ∨ r.val % 2 = 1 := by omega
    · rw [hr, extract_low]
      rw [show (⟨2 * (r.val / 2), by omega⟩ : Fin 512) = r from Fin.ext (by simp only; omega)]
      exact inv_half _ (h1 _ _) (h2 _ _)
    · rw [hr, extract_high]
      rw [show (⟨2 * (r.val / 2) + 1, by omega⟩ : Fin 512) = r from Fin.ext (by simp only; omega)]
      exact inv_half _ (h1 _ _) (h2 _ _)
  · rw [half_toNat _ (h2 _ _)]; exact le_trans (Nat.mul_le_mul_right 128 (h2 _ _)) (by omega)
  · rw [half_toNat _ (h2 _ _)]; exact le_trans (Nat.mul_le_mul_right 128 (h2 _ _)) (by omega)

end

/-- The codes of one tile, before their cast to 8 bits: scaled, clipped and multiplied by 64. -/
def codeT (w : BitVec 32) (S : IVec S256x128 32) (v : Vec Ideal S512x128 .bf16) : FVec Ideal S512x128 .bf16 :=
  k0_pay22 (F := Ideal) (mulf (shapeCast S512x128 v shapeCasts_S512x128_S512x128) (invT w S))

/-- The codes of one tile. -/
def code8T (w : BitVec 32) (S : IVec S256x128 32) (v : Vec Ideal S512x128 .bf16) : FVec Ideal S512x128 .fp8e4m3 :=
  truncf .fp8e4m3 (codeT w S v) bitsLt_fp8e4m3_bf16

/-- The dequantised values of one tile. -/
def xdT (w : BitVec 32) (S : IVec S256x128 32) (v : Vec Ideal S512x128 .bf16) : FVec Ideal S512x128 .bf16 :=
  shapeCast S512x128 (mulf (codeT w S v) (stT w S)) shapeCasts_S512x128_S512x128

section
variable {u : IVec S512x128 32} {U : Fin 512 → Fin 128 → ℕ} (hu : ∀ r l, u (ix2 r l) = BitVec.ofNat 32 (U r l))
  (h1 : ∀ r l, 1 ≤ U r l) (h2 : ∀ r l, U r l ≤ 247) (t : Fin 20) (v : Vec Ideal S512x128 .bf16) (r : Fin 512) (l : Fin 128)
include hu h1 h2

theorem codeT_apply : codeT (BitVec.ofNat 32 (4 * t.val)) (wordsV u) v (ix2 r l)
    = clip (v (ix2 r l) * pow2 (127 - (U r ⟨4 * t.val + l.val / 32, by omega⟩ : ℤ))) := by
  have h := clip_64 (v (ix2 r l)) (121 - (U r ⟨4 * t.val + l.val / 32, by omega⟩ : ℤ))
  rw [show (121 - (U r ⟨4 * t.val + l.val / 32, by omega⟩ : ℤ) + 6) = 127 - (U r ⟨4 * t.val + l.val / 32, by omega⟩ : ℤ) by ring] at h
  rw [← h, ← invT_apply hu h1 h2 t r l]
  unfold codeT k0_pay22
  pointwise

theorem code8T_apply : code8T (BitVec.ofNat 32 (4 * t.val)) (wordsV u) v (ix2 r l)
    = clip (v (ix2 r l) * pow2 (127 - (U r ⟨4 * t.val + l.val / 32, by omega⟩ : ℤ))) :=
  codeT_apply hu h1 h2 t v r l

theorem xdT_apply : xdT (BitVec.ofNat 32 (4 * t.val)) (wordsV u) v (ix2 r l)
    = clip (v (ix2 r l) * pow2 (127 - (U r ⟨4 * t.val + l.val / 32, by omega⟩ : ℤ)))
        * pow2 ((U r ⟨4 * t.val + l.val / 32, by omega⟩ : ℤ) - 127) := by
  rw [← codeT_apply hu h1 h2 t v r l, ← stT_apply hu h1 h2 t r l]
  unfold xdT
  pointwise

end

end Cert.Proof
end
-- ==== Proof.MainBlock.lean ====
/- What the main kernel leaves of one block of 512 rows: the scale exponents, the codes, the dequantised values. -/
module

public import proofs.«01_k».proof.Proof.MainTile
public import proofs.«01_k».proof.Proof.MainMax
public import proofs.«01_k».proof.Proof.Gen.MainIdeal.Value
public import Idealize.ShloMosaic.Lib.Pipeline.ValueKit
public import Idealize.ShloMosaic.Lib.Pointwise

@[expose] public section

set_option maxRecDepth 16384

noncomputable section

namespace Cert.Proof

open Cert.MainIdeal Cert.MainIdeal.Gen Idealize.ShloMosaic Idealize.ShloMosaic.TcCoe Idealize.SL.Sem

/-- The largest magnitude of block `c` of row `r`. -/
def magB (X : Vec Ideal S512x2560 .bf16) (r : Fin 512) (c : Fin 80) : EReal :=
  absMax fun k => X (ix2 r ⟨32 * c.val + k.val, by omega⟩)

/-- The biased scale exponent of block `c` of row `r`. -/
def uB (X : Vec Ideal S512x2560 .bf16) (r : Fin 512) (c : Fin 80) : ℕ := uExp (magB X r c)

/-- The code of column `k` of row `r`. -/
def codeB (X : Vec Ideal S512x2560 .bf16) (r : Fin 512) (k : Fin 2560) : EReal :=
  clip (X (ix2 r k) * pow2 (127 - (uB X r ⟨k.val / 32, by omega⟩ : ℤ)))

/-- The dequantised value of column `k` of row `r`. -/
def xdB (X : Vec Ideal S512x2560 .bf16) (r : Fin 512) (k : Fin 2560) : EReal :=
  codeB X r k * pow2 ((uB X r ⟨k.val / 32, by omega⟩ : ℤ) - 127)

/-- Each block of the rows is in range. -/
def BlockOK (X : Vec Ideal S512x2560 .bf16) : Prop := ∀ r c, InRange (magB X r c)

section
variable {X : Vec Ideal S512x2560 .bf16} (hX : BlockOK X)
include hX

theorem BlockOK.mag (r : Fin 512) (c : Fin 128) : InRange (magV X (ix2 r c)) := by
  by_cases h : c.val < 80
  · have := hX r ⟨c.val, h⟩
    rwa [magB, ← magV_apply X r ⟨c.val, h⟩] at this
  · rw [magV_apply_high X r c (by omega)]; exact Or.inl rfl

theorem BlockOK.words (r : Fin 512) (c : Fin 128) : uV (magV X) (ix2 r c) = BitVec.ofNat 32 (uExp (magV X (ix2 r c))) :=
  (hX.mag r c).uOf

omit hX in
theorem uExp_magV (r : Fin 512) (c : Fin 80) : uExp (magV X (ix2 r ⟨c.val, by omega⟩)) = uB X r c :=
  congrArg uExp (magV_apply X r c)

omit hX in
/-- Columns `128 t …` of a block, read as one tile. -/
theorem ld_tile (t : Fin 20) (inb) (r : Fin 512) (l : Fin 128) :
    View.ld X (Rect.unit ![0, 128 * t.val] ![512, 128] inb) (ix2 r l) = X (ix2 r ⟨128 * t.val + l.val, by omega⟩) := by
  refine congrArg X (funext fun a => ?_)
  match a with
  | ⟨0, _⟩ => exact Fin.ext ((Rect.idx_unit_val ..).trans (Nat.zero_add _))
  | ⟨1, _⟩ => exact Fin.ext (Rect.idx_unit_val ..)

omit hX in
theorem uExp_tile (t : Fin 20) (r : Fin 512) (l : Fin 128) (k : Fin 2560) (hk : k.val = 128 * t.val + l.val) :
    uExp (magV X (ix2 r ⟨4 * t.val + l.val / 32, by omega⟩)) = uB X r ⟨k.val / 32, by omega⟩ := by
  rw [← uExp_magV]
  refine congrArg (fun q => uExp (magV X (ix2 r q))) (Fin.ext ?_)
  show 4 * t.val + l.val / 32 = k.val / 32
  omega

/-- The codes that tile `t` stores. -/
theorem tile_code {S : IVec S256x128 32} (hS : S = wordsV (uV (magV X))) (t : Fin 20) (inb) (r : Fin 512) (k : Fin 2560) :
    View.TileAt (S := S512x2560) (Val := Elt Ideal) (e := .fp8e4m3) (ix2 r k) ![0, 128 * t.val] ![512, 128]
      (code8T (BitVec.ofNat 32 (4 * t.val)) S (View.ld X (Rect.unit ![0, 128 * t.val] ![512, 128] inb)))
      (codeB X r k) := by
  intro x hx
  subst hS
  have h0 : (r : ℕ) = 0 + (x 0 : ℕ) := hx 0
  have h1 : (k : ℕ) = 128 * t.val + (x 1 : ℕ) := hx 1
  obtain ⟨l, hl⟩ : ∃ l : Fin 128, x = ix2 r l := ⟨x 1, (eq_ix2 x).trans (congrArg (fun q => ix2 q (x 1)) (Fin.ext (by omega)))⟩
  subst hl
  replace h1 : k.val = 128 * t.val + l.val := h1
  rw [code8T_apply hX.words (fun r c => (hX.mag r c).uExp_pos) (fun r c => (hX.mag r c).uExp_le) t, uExp_tile t r l k h1, ld_tile,
    show (⟨128 * t.val + l.val, by omega⟩ : Fin 2560) = k from Fin.ext h1.symm]
  rfl

/-- The dequantised values that tile `t` stores. -/
theorem tile_xd {S : IVec S256x128 32} (hS : S = wordsV (uV (magV X))) (t : Fin 20) (inb) (r : Fin 512) (k : Fin 2560) :
    View.TileAt (S := S512x2560) (Val := Elt Ideal) (e := .bf16) (ix2 r k) ![0, 128 * t.val] ![512, 128]
      (xdT (BitVec.ofNat 32 (4 * t.val)) S (View.ld X (Rect.unit ![0, 128 * t.val] ![512, 128] inb)))
      (xdB X r k) := by
  intro x hx
  subst hS
  have h0 : (r : ℕ) = 0 + (x 0 : ℕ) := hx 0
  have h1 : (k : ℕ) = 128 * t.val + (x 1 : ℕ) := hx 1
  obtain ⟨l, hl⟩ : ∃ l : Fin 128, x = ix2 r l := ⟨x 1, (eq_ix2 x).trans (congrArg (fun q => ix2 q (x 1)) (Fin.ext (by omega)))⟩
  subst hl
  replace h1 : k.val = 128 * t.val + l.val := h1
  rw [xdT_apply hX.words (fun r c => (hX.mag r c).uExp_pos) (fun r c => (hX.mag r c).uExp_le) t, uExp_tile t r l k h1, ld_tile,
    show (⟨128 * t.val + l.val, by omega⟩ : Fin 2560) = k from Fin.ext h1.symm]
  rfl

end

end Cert.Proof
end
-- ==== Proof.MainCodes.lean ====
/- What the main kernel stores of the codes and of the scale exponents of one block of 512 rows. -/
module

public import proofs.«01_k».proof.Proof.MainBlock

@[expose] public section

set_option maxRecDepth 16384

noncomputable section

namespace Cert.Proof

open Cert.MainIdeal Cert.MainIdeal.Gen Idealize.ShloMosaic Idealize.ShloMosaic.TcCoe Idealize.SL.Sem

/-- The kernel's scale exponents of a block of rows. -/
theorem pay17_block (X : Vec Ideal S512x2560 .bf16) :
    k0_pay17 (magV X) (k0_pay14 (magV X) (step1 X) (step2 X) k0_pay13) (k0_pay15 (magV X) (step1 X) (step2 X) k0_pay13) k0_pay16
      = uV (magV X) :=
  pay17_eq _ _ _ _ _ _ _ _ _ _

theorem pay18_apply (A : FVec Ideal S512x128 .f32) (D : IVec S512x128 32) (E : IVec S512x128 1) (p : IVec S512x128 32) (r : Fin 512) (q : Fin 80) :
    k0_pay18 A D E p (ix2 r q) = (k0_pay17 A D E p (ix2 r ⟨q.val, by omega⟩)).setWidth 8 := by
  unfold k0_pay18
  generalize k0_pay17 A D E p = u
  pointwise

/-- The scale exponents of a block of rows. -/
theorem out4_apply (c : Dev nD) (i : grid0.Coords) (arg1 : Memref sig .tc .vmem S512x2560 .bf16) (harg1 : arg1.IsWhole)
    (arg2 : Memref sig .tc .vmem S2560x6912 .bf16) (harg2 : arg2.IsWhole) (arg3 : Memref sig .tc .vmem S512x6912 .bf16) (harg3 : arg3.IsWhole)
    (arg4 : Memref sig .tc .vmem S512x2560 .fp8e4m3) (harg4 : arg4.IsWhole) (arg5 : Memref sig .tc .vmem S512x80 .i8) (harg5 : arg5.IsWhole)
    (arg6 : Memref sig .tc .vmem S512x2560 .bf16) (harg6 : arg6.IsWhole)
    (x0 : Vec Ideal S512x2560 .bf16) (x1 : Vec Ideal S2560x6912 .bf16) (hX : BlockOK x0)
    (r : Fin 512) (q : Fin 80) :
    out0_A_4 c i arg1 harg1 arg2 harg2 arg3 harg3 arg4 harg4 arg5 harg5 arg6 harg6 x0 x1 (ix2 r q)
      = (BitVec.ofNat 32 (uB x0 r q)).setWidth 8 := by
  have e17 := pay17_block x0
  rw [← uExp_magV, ← hX.words, ← e17]
  frame_out
  unfold magV step1 step2
  generalize k0_pay10 (F := Ideal) _ _ _ _ _ _ _ _ _ _ = A
  generalize k0_pay14 (F := Ideal) _ _ _ _ = D
  generalize k0_pay15 (F := Ideal) _ _ _ _ = E
  exact pay18_apply A D E k0_pay16 r q

/-- The codes of a block of rows. -/
theorem out3_apply (c : Dev nD) (i : grid0.Coords) (arg1 : Memref sig .tc .vmem S512x2560 .bf16) (harg1 : arg1.IsWhole)
    (arg2 : Memref sig .tc .vmem S2560x6912 .bf16) (harg2 : arg2.IsWhole) (arg3 : Memref sig .tc .vmem S512x6912 .bf16) (harg3 : arg3.IsWhole)
    (arg4 : Memref sig .tc .vmem S512x2560 .fp8e4m3) (harg4 : arg4.IsWhole) (arg5 : Memref sig .tc .vmem S512x80 .i8) (harg5 : arg5.IsWhole)
    (arg6 : Memref sig .tc .vmem S512x2560 .bf16) (harg6 : arg6.IsWhole)
    (x0 : Vec Ideal S512x2560 .bf16) (x1 : Vec Ideal S2560x6912 .bf16) (hX : BlockOK x0)
    (r : Fin 512) (k : Fin 2560) :
    out0_A_3 c i arg1 harg1 arg2 harg2 arg3 harg3 arg4 harg4 arg5 harg5 arg6 harg6 x0 x1 (ix2 r k) = codeB x0 r k := by
  have e17 := pay17_block x0
  frame_out
  rewrite [← magV, ← step1, ← step2]
  generalize k0_pay14 (F := Ideal) (magV x0) _ _ _ = D at *
  generalize k0_pay15 (F := Ideal) (magV x0) _ _ _ = E at *
  refine View.canon_eq_of_allAt _ _ _ (View.cover_of_tiled_head _ _ _ rfl _) ?_
  have hS : k0_pay19 (magV x0) D E k0_pay16 = wordsV (uV (magV x0)) := congrArg wordsV e17
  refine View.allAt_cons_unit _ _ _ _ _ (tile_code hX hS 19 _ r k) ?_
  refine View.allAt_cons_unit _ _ _ _ _ (tile_code hX hS 18 _ r k) ?_
  refine View.allAt_cons_unit _ _ _ _ _ (tile_code hX hS 17 _ r k) ?_
  refine View.allAt_cons_unit _ _ _ _ _ (tile_code hX hS 16 _ r k) ?_
  refine View.allAt_cons_unit _ _ _ _ _ (tile_code hX hS 15 _ r k) ?_
  refine View.allAt_cons_unit _ _ _ _ _ (tile_code hX hS 14 _ r k) ?_
  refine View.allAt_cons_unit _ _ _ _ _ (tile_code hX hS 13 _ r k) ?_
  refine View.allAt_cons_unit _ _ _ _ _ (tile_code hX hS 12 _ r k) ?_
  refine View.allAt_cons_unit _ _ _ _ _ (tile_code hX hS 11 _ r k) ?_
  refine View.allAt_cons_unit _ _ _ _ _ (tile_code hX hS 10 _ r k) ?_
  refine View.allAt_cons_unit _ _ _ _ _ (tile_code hX hS 9 _ r k) ?_
  refine View.allAt_cons_unit _ _ _ _ _ (tile_code hX hS 8 _ r k) ?_
  refine View.allAt_cons_unit _ _ _ _ _ (tile_code hX hS 7 _ r k) ?_
  refine View.allAt_cons_unit _ _ _ _ _ (tile_code hX hS 6 _ r k) ?_
  refine View.allAt_cons_unit _ _ _ _ _ (tile_code hX hS 5 _ r k) ?_
  refine View.allAt_cons_unit _ _ _ _ _ (tile_code hX hS 4 _ r k) ?_
  refine View.allAt_cons_unit _ _ _ _ _ (tile_code hX hS 3 _ r k) ?_
  refine View.allAt_cons_unit _ _ _ _ _ (tile_code hX hS 2 _ r k) ?_
  refine View.allAt_cons_unit _ _ _ _ _ (tile_code hX hS 1 _ r k) ?_
  refine View.allAt_cons_unit _ _ _ _ _ (tile_code hX hS 0 _ r k) ?_
  exact View.allAt_nil _ _

end Cert.Proof
end
-- ==== Proof.MainProduct.lean ====
/- What the main kernel stores of the product of one block of 512 rows: the sums over all 2560 columns. -/
module

public import proofs.«01_k».proof.Proof.MainCodes

@[expose] public section

set_option maxRecDepth 16384

noncomputable section

namespace Cert.Proof

open Cert.MainIdeal Cert.MainIdeal.Gen Idealize.ShloMosaic Idealize.ShloMosaic.TcCoe Idealize.SL.Sem

/-- One tile of the product. -/
def dotT (R : Vec Ideal S512x2560 .bf16) (w : Vec Ideal S2560x256 .bf16) : FVec Ideal S512x256 .bf16 := k0_pay120 R w

theorem dotT_apply (R : Vec Ideal S512x2560 .bf16) (w : Vec Ideal S2560x256 .bf16) (r : Fin 512) (l : Fin 256) :
    dotT R w (ix2 r l) = ∑ k : Fin 2560, R (ix2 r k) * w (ix2 k l) := by
  unfold dotT k0_pay120
  pointwise

/-- Columns `256 t …` of the right operand, read as one tile. -/
theorem ld_cols_w (x1 : Vec Ideal S2560x6912 .bf16) (t : Fin 27) (inb) (k : Fin 2560) (l : Fin 256) :
    View.ld x1 (Rect.unit ![0, 256 * t.val] ![2560, 256] inb) (ix2 k l) = x1 (ix2 k ⟨256 * t.val + l.val, by omega⟩) := by
  refine congrArg x1 (funext fun a => ?_)
  match a with
  | ⟨0, _⟩ => exact Fin.ext ((Rect.idx_unit_val ..).trans (Nat.zero_add _))
  | ⟨1, _⟩ => exact Fin.ext (Rect.idx_unit_val ..)

/-- The products that tile `t` stores. -/
theorem tile_dot {x0 : Vec Ideal S512x2560 .bf16} {x1 : Vec Ideal S2560x6912 .bf16} {R : Vec Ideal S512x2560 .bf16}
    (hR : ∀ r k, R (ix2 r k) = xdB x0 r k) (t : Fin 27) (inb) (r : Fin 512) (q : Fin 6912) :
    View.TileAt (S := S512x6912) (Val := Elt Ideal) (e := .bf16) (ix2 r q) ![0, 256 * t.val] ![512, 256]
      (dotT R (View.ld x1 (Rect.unit ![0, 256 * t.val] ![2560, 256] inb)))
      (∑ k : Fin 2560, xdB x0 r k * x1 (ix2 k q)) := by
  intro x hx
  have h0 : (r : ℕ) = 0 + (x 0 : ℕ) := hx 0
  have h1 : (q : ℕ) = 256 * t.val + (x 1 : ℕ) := hx 1
  obtain ⟨l, hl⟩ : ∃ l : Fin 256, x = ix2 r l := ⟨x 1, (eq_ix2 x).trans (congrArg (fun q => ix2 q (x 1)) (Fin.ext (by omega)))⟩
  subst hl
  replace h1 : q.val = 256 * t.val + l.val := h1
  rw [dotT_apply]
  refine Finset.sum_congr rfl fun k _ => ?_
  rw [hR, ld_cols_w, show (⟨256 * t.val + l.val, by omega⟩ : Fin 6912) = q from Fin.ext h1.symm]

/-- The product of a block of rows. -/
theorem out2_apply (c : Dev nD) (i : grid0.Coords) (arg1 : Memref sig .tc .vmem S512x2560 .bf16) (harg1 : arg1.IsWhole)
    (arg2 : Memref sig .tc .vmem S2560x6912 .bf16) (harg2 : arg2.IsWhole) (arg3 : Memref sig .tc .vmem S512x6912 .bf16) (harg3 : arg3.IsWhole)
    (arg4 : Memref sig .tc .vmem S512x2560 .fp8e4m3) (harg4 : arg4.IsWhole) (arg5 : Memref sig .tc .vmem S512x80 .i8) (harg5 : arg5.IsWhole)
    (arg6 : Memref sig .tc .vmem S512x2560 .bf16) (harg6 : arg6.IsWhole)
    (x0 : Vec Ideal S512x2560 .bf16) (x1 : Vec Ideal S2560x6912 .bf16) (hX : BlockOK x0)
    (r : Fin 512) (q : Fin 6912) :
    out0_A_2 c i arg1 harg1 arg2 harg2 arg3 harg3 arg4 harg4 arg5 harg5 arg6 harg6 x0 x1 (ix2 r q) = ∑ k : Fin 2560, xdB x0 r k * x1 (ix2 k q) := by
  have e17 := pay17_block x0
  frame_out
  rewrite [← magV, ← step1, ← step2]
  generalize k0_pay14 (F := Ideal) (magV x0) _ _ _ = D at *
  generalize k0_pay15 (F := Ideal) (magV x0) _ _ _ = E at *
  have hS : k0_pay19 (magV x0) D E k0_pay16 = wordsV (uV (magV x0)) := congrArg wordsV e17
  generalize hR : View.readCov (Val := Elt Ideal) arg6.view _ _ = R
  have hRv : ∀ r k, R (ix2 r k) = xdB x0 r k := by
    intro r k
    subst hR
    refine (congrFun (View.readCov_eq_canon_ld _ _ _ ?_) _).trans ?_
    · exact fun y => View.cover_of_tiled_head _ _ _ rfl y
    refine (congrFun (View.ld_unit_lit _ _ (by decide)) _).trans ?_
    refine View.canon_eq_of_allAt _ _ _ (View.cover_of_tiled_head _ _ _ rfl _) ?_
    refine View.allAt_cons_unit _ _ _ _ _ (tile_xd hX hS 19 _ r k) ?_
    refine View.allAt_cons_unit _ _ _ _ _ (tile_xd hX hS 18 _ r k) ?_
    refine View.allAt_cons_unit _ _ _ _ _ (tile_xd hX hS 17 _ r k) ?_
    refine View.allAt_cons_unit _ _ _ _ _ (tile_xd hX hS 16 _ r k) ?_
    refine View.allAt_cons_unit _ _ _ _ _ (tile_xd hX hS 15 _ r k) ?_
    refine View.allAt_cons_unit _ _ _ _ _ (tile_xd hX hS 14 _ r k) ?_
    refine View.allAt_cons_unit _ _ _ _ _ (tile_xd hX hS 13 _ r k) ?_
    refine View.allAt_cons_unit _ _ _ _ _ (tile_xd hX hS 12 _ r k) ?_
    refine View.allAt_cons_unit _ _ _ _ _ (tile_xd hX hS 11 _ r k) ?_
    refine View.allAt_cons_unit _ _ _ _ _ (tile_xd hX hS 10 _ r k) ?_
    refine View.allAt_cons_unit _ _ _ _ _ (tile_xd hX hS 9 _ r k) ?_
    refine View.allAt_cons_unit _ _ _ _ _ (tile_xd hX hS 8 _ r k) ?_
    refine View.allAt_cons_unit _ _ _ _ _ (tile_xd hX hS 7 _ r k) ?_
    refine View.allAt_cons_unit _ _ _ _ _ (tile_xd hX hS 6 _ r k) ?_
    refine View.allAt_cons_unit _ _ _ _ _ (tile_xd hX hS 5 _ r k) ?_
    refine View.allAt_cons_unit _ _ _ _ _ (tile_xd hX hS 4 _ r k) ?_
    refine View.allAt_cons_unit _ _ _ _ _ (tile_xd hX hS 3 _ r k) ?_
    refine View.allAt_cons_unit _ _ _ _ _ (tile_xd hX hS 2 _ r k) ?_
    refine View.allAt_cons_unit _ _ _ _ _ (tile_xd hX hS 1 _ r k) ?_
    refine View.allAt_cons_unit _ _ _ _ _ (tile_xd hX hS 0 _ r k) ?_
    exact View.allAt_nil _ _
  clear hR
  refine View.canon_eq_of_allAt _ _ _ (View.cover_of_tiled_head _ _ _ rfl _) ?_
  refine View.allAt_cons_unit _ _ _ _ _ (tile_dot hRv 26 _ r q) ?_
  refine View.allAt_cons_unit _ _ _ _ _ (tile_dot hRv 25 _ r q) ?_
  refine View.allAt_cons_unit _ _ _ _ _ (tile_dot hRv 24 _ r q) ?_
  refine View.allAt_cons_unit _ _ _ _ _ (tile_dot hRv 23 _ r q) ?_
  refine View.allAt_cons_unit _ _ _ _ _ (tile_dot hRv 22 _ r q) ?_
  refine View.allAt_cons_unit _ _ _ _ _ (tile_dot hRv 21 _ r q) ?_
  refine View.allAt_cons_unit _ _ _ _ _ (tile_dot hRv 20 _ r q) ?_
  refine View.allAt_cons_unit _ _ _ _ _ (tile_dot hRv 19 _ r q) ?_
  refine View.allAt_cons_unit _ _ _ _ _ (tile_dot hRv 18 _ r q) ?_
  refine View.allAt_cons_unit _ _ _ _ _ (tile_dot hRv 17 _ r q) ?_
  refine View.allAt_cons_unit _ _ _ _ _ (tile_dot hRv 16 _ r q) ?_
  refine View.allAt_cons_unit _ _ _ _ _ (tile_dot hRv 15 _ r q) ?_
  refine View.allAt_cons_unit _ _ _ _ _ (tile_dot hRv 14 _ r q) ?_
  refine View.allAt_cons_unit _ _ _ _ _ (tile_dot hRv 13 _ r q) ?_
  refine View.allAt_cons_unit _ _ _ _ _ (tile_dot hRv 12 _ r q) ?_
  refine View.allAt_cons_unit _ _ _ _ _ (tile_dot hRv 11 _ r q) ?_
  refine View.allAt_cons_unit _ _ _ _ _ (tile_dot hRv 10 _ r q) ?_
  refine View.allAt_cons_unit _ _ _ _ _ (tile_dot hRv 9 _ r q) ?_
  refine View.allAt_cons_unit _ _ _ _ _ (tile_dot hRv 8 _ r q) ?_
  refine View.allAt_cons_unit _ _ _ _ _ (tile_dot hRv 7 _ r q) ?_
  refine View.allAt_cons_unit _ _ _ _ _ (tile_dot hRv 6 _ r q) ?_
  refine View.allAt_cons_unit _ _ _ _ _ (tile_dot hRv 5 _ r q) ?_
  refine View.allAt_cons_unit _ _ _ _ _ (tile_dot hRv 4 _ r q) ?_
  refine View.allAt_cons_unit _ _ _ _ _ (tile_dot hRv 3 _ r q) ?_
  refine View.allAt_cons_unit _ _ _ _ _ (tile_dot hRv 2 _ r q) ?_
  refine View.allAt_cons_unit _ _ _ _ _ (tile_dot hRv 1 _ r q) ?_
  refine View.allAt_cons_unit _ _ _ _ _ (tile_dot hRv 0 _ r q) ?_
  exact View.allAt_nil _ _

end Cert.Proof
end
-- ==== Proof.MainArrays.lean ====
/- The arrays that the main kernel leaves, as the reference's values: each point of the grid fills 512 rows. -/
module

public import proofs.«01_k».proof.Proof.MainProduct
public import proofs.«01_k».proof.Proof.MainReference

@[expose] public section

set_option maxRecDepth 16384

noncomputable section

namespace Cert.Proof

open Cert.MainIdeal Cert.MainIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The activations. -/
def argX : Vec Ideal S24x512x2560 .bf16 := m ((c.tc : Thread nD τ).loc main_arg0)

/-- The weights. -/
def argW : Vec Ideal S2560x6912 .bf16 := m ((c.tc : Thread nD τ).loc main_arg1)

/-- The row that row `r` of point `t` is. -/
def rowAt (t : Fin cfg0.N) (r : Fin 512) : Fin 12288 := ⟨512 * t.val + r.val, by have : t.val < 24 := t.isLt; omega⟩

theorem idx : ∀ t : Fin cfg0.N, win0_0.index t = ![t.val, 0] ∧ win0_1.index t = ![0, 0] ∧ win0_2.index t = ![t.val, 0]
    ∧ win0_3.index t = ![t.val, 0] ∧ win0_4.index t = ![t.val, 0] :=
  (by decide +kernel : ∀ t : Fin grid0.N, win0_0.index t = ![t.val, 0] ∧ win0_1.index t = ![0, 0] ∧ win0_2.index t = ![t.val, 0]
    ∧ win0_3.index t = ![t.val, 0] ∧ win0_4.index t = ![t.val, 0])

theorem emb0 (t : Fin cfg0.N) (r : Fin 512) (k : Fin 2560) : (win0_0.blk t).view.emb (ix2 r k) = ix2 (rowAt t r) k := by
  blk_ext [idx t]
  show t.val * 512 + r.val = 512 * t.val + r.val
  omega

theorem emb2 (t : Fin cfg0.N) (r : Fin 512) (k : Fin 6912) : (win0_2.blk t).view.emb (ix2 r k) = ix2 (rowAt t r) k := by
  blk_ext [idx t]
  show t.val * 512 + r.val = 512 * t.val + r.val
  omega

theorem emb3 (t : Fin cfg0.N) (r : Fin 512) (k : Fin 2560) : (win0_3.blk t).view.emb (ix2 r k) = ix2 (rowAt t r) k := by
  blk_ext [idx t]
  show t.val * 512 + r.val = 512 * t.val + r.val
  omega

theorem emb4 (t : Fin cfg0.N) (r : Fin 512) (k : Fin 80) : (win0_4.blk t).view.emb (ix2 r k) = ix2 (rowAt t r) k := by
  blk_ext [idx t]
  show t.val * 512 + r.val = 512 * t.val + r.val
  omega

theorem iblk0_apply (t : Fin cfg0.N) (r : Fin 512) (k : Fin 2560) :
    iblk m c 0 t (ix2 r k) = rowX (argX m c) (rowAt t r) k := by
  unfold rowX argX
  blk_simp [iblk, V]
  rw [emb0]
  generalize rowAt t r = R
  entry_read
  refine shapeCast_apply _ _ _ _ ?_
  refine (Shape.rowMajor_val_three _).trans (Eq.trans ?_ (Shape.rowMajor_val_two _).symm)
  show (R.val / 512 * 512 + R.val % 512) * 2560 + k.val = R.val * 2560 + k.val
  omega

theorem magB_eq (t : Fin cfg0.N) (r : Fin 512) (q : Fin 80) : magB (iblk m c 0 t) r q = magR (argX m c) (rowAt t r) q := by
  unfold magB magR
  exact congrArg absMax (funext fun k => iblk0_apply m c t r _)

theorem rows_block (hX : RowsOK (argX m c)) (t : Fin cfg0.N) : BlockOK (iblk m c 0 t) := fun r q => by
  rw [magB_eq]
  exact hX _ _

theorem uB_eq (t : Fin cfg0.N) (r : Fin 512) (q : Fin 80) : uB (iblk m c 0 t) r q = uR (argX m c) (rowAt t r) q :=
  congrArg uExp (magB_eq m c t r q)

theorem codeB_eq (t : Fin cfg0.N) (r : Fin 512) (k : Fin 2560) : codeB (iblk m c 0 t) r k = codeR (argX m c) (rowAt t r) k := by
  unfold codeB codeR
  rw [uB_eq, iblk0_apply]

theorem xdB_eq (t : Fin cfg0.N) (r : Fin 512) (k : Fin 2560) : xdB (iblk m c 0 t) r k = xdR (argX m c) (rowAt t r) k := by
  unfold xdB xdR
  rw [uB_eq, codeB_eq]

theorem iblk1_eq (t : Fin cfg0.N) : iblk m c 1 t = argW m c := by
  unfold argW
  funext i
  blk_ext [iblk, V, idx t]

theorem arr2 (hX : RowsOK (argX m c)) :
    (dats m 0 c).arrAt 2 cfg0.N = Cert.MainRefIdeal.Read.val_main_v43 (F := Ideal) (argX m c) (argW m c) := by
  refine (dats m 0 c).arrAt_eq_of_covers 2 _ (by decide +kernel) fun t hf y => ?_
  blk_simp
  rw [after0_2]
  unfold outsAt0
  dsimp only
  obtain ⟨r, k, rfl⟩ : ∃ (r : Fin 512) (k : Fin 6912), y = ix2 r k := ⟨y 0, y 1, eq_ix2 y⟩
  rw [emb2]
  refine (out2_apply _ _ _ _ _ _ _ _ _ _ _ _ _ _ _ _ (rows_block m c hX t) r k).trans ?_
  rw [v43_apply hX]
  rw [iblk1_eq]
  exact Finset.sum_congr rfl fun q _ => congrArg (· * _) (xdB_eq m c t r q)

theorem arr3 (hX : RowsOK (argX m c)) :
    (dats m 0 c).arrAt 3 cfg0.N = Cert.MainRefIdeal.Read.val_main_v47 (F := Ideal) (argX m c) := by
  refine (dats m 0 c).arrAt_eq_of_covers 3 _ (by decide +kernel) fun t hf y => ?_
  blk_simp
  rw [after0_3]
  unfold outsAt0
  dsimp only
  obtain ⟨r, k, rfl⟩ : ∃ (r : Fin 512) (k : Fin 2560), y = ix2 r k := ⟨y 0, y 1, eq_ix2 y⟩
  rw [emb3]
  refine (out3_apply _ _ _ _ _ _ _ _ _ _ _ _ _ _ _ _ (rows_block m c hX t) r k).trans ?_
  rw [v47_apply hX]
  exact codeB_eq m c t r k

theorem arr4 (hX : RowsOK (argX m c)) :
    (dats m 0 c).arrAt 4 cfg0.N = Cert.MainRefIdeal.Read.val_main_v46 (F := Ideal) (argX m c) := by
  refine (dats m 0 c).arrAt_eq_of_covers 4 _ (by decide +kernel) fun t hf y => ?_
  blk_simp
  rw [after0_4]
  unfold outsAt0
  dsimp only
  obtain ⟨r, k, rfl⟩ : ∃ (r : Fin 512) (k : Fin 80), y = ix2 r k := ⟨y 0, y 1, eq_ix2 y⟩
  rw [emb4]
  refine (out4_apply _ _ _ _ _ _ _ _ _ _ _ _ _ _ _ _ (rows_block m c hX t) r k).trans ?_
  rw [v46_apply hX]
  rw [uB_eq]

end Cert.Proof
end
-- ==== Proof.lean ====
module

public import proofs.«01_k».proof.Defs
public import proofs.«01_k».proof.Proof.Gen.Main
public import proofs.«01_k».proof.Proof.Gen.Main.Skeleton
public import proofs.«01_k».proof.Proof.Gen.Main.Launch
public import proofs.«01_k».proof.Proof.Gen.Main.Points
public import proofs.«01_k».proof.Proof.Gen.Main.Frame
public import proofs.«01_k».proof.Proof.Gen.MainIdeal
public import proofs.«01_k».proof.Proof.Gen.MainIdeal.Skeleton
public import proofs.«01_k».proof.Proof.Gen.MainIdeal.Launch
public import proofs.«01_k».proof.Proof.Gen.MainIdeal.Points
public import proofs.«01_k».proof.Proof.Gen.MainIdeal.Frame
public import proofs.«01_k».proof.Proof.Gen.MainIdeal.Value
public import proofs.«01_k».proof.Proof.Gen.MainRefIdeal.Run
public import proofs.«01_k».proof.Proof.Gen.MainRefIdeal.Read
public import proofs.«01_k».proof.Proof.Gen.MainRefIdeal
public import proofs.«01_k».proof.Proof.MainPre
public import proofs.«01_k».proof.Proof.MainArrays
public import Idealize.ShloMosaic.Adequacy
public import Idealize.ShloMosaic.Init

@[expose] public section

noncomputable section

namespace Cert.Proof

open Idealize.ShloMosaic Idealize.SL.Sem

/-- Over the reals the kernel and the reference leave the same product, codes and scales. -/
theorem algebraic [hPre : Cert.Pre_blocks_in_range.Facts] :
    Cert.algebraic_MainIdeal_MainRefIdeal_pre_blocks_in_range (hMainIdeal := Cert.MainIdeal.Gen.facts)
      (hMainRefIdeal := Cert.MainRefIdeal.Gen.facts) := by
  intro m g m' g' hp ha
  have hX : ∀ c, RowsOK (argX m c) := fun c => rowsOK_of_pre _ _ (hp c)
  refine ⟨fun c => Cert.MainRefIdeal.Read.val_main_v43 (F := Ideal) (argX m c) (argW m c),
    fun c => Cert.MainRefIdeal.Read.val_main_v47 (F := Ideal) (argX m c),
    fun c => Cert.MainRefIdeal.Read.val_main_v46 (F := Ideal) (argX m c), ?_, ?_⟩
  · refine (θ_run _ _ _).mono (fun r h c => ?_) (Cert.MainIdeal.Value.run_blocks (F := Ideal) m g)
    obtain ⟨h2, h3, h4, h0, h1⟩ := h c
    exact ⟨h2.trans (arr2 m c (hX c)), h3.trans (arr3 m c (hX c)), h4.trans (arr4 m c (hX c)), h0, h1⟩
  · refine (θ_run _ _ _).mono (fun r h c => ?_) (Cert.MainRefIdeal.Value.run (F := Ideal) m' g')
    obtain ⟨h2, h3, h4, h0, h1⟩ := h c
    obtain ⟨e0, e1⟩ := ha c
    rw [Cert.MainRefIdeal.Read.val_main_v43_eq, e0, e1] at h2
    rw [Cert.MainRefIdeal.Read.val_main_v47_eq, e0] at h3
    rw [Cert.MainRefIdeal.Read.val_main_v46_eq, e0] at h4
    exact ⟨h2, h3, h4, h0, h1⟩

/-- The reference runs and ends with its arguments unchanged; it declares no semaphore. -/
theorem frame_reference (m) (ρ) :
    θ_run Cert.MainRefIdeal.defs (onTc (τ := Cert.MainRefIdeal.τ) (Cert.MainRefIdeal.main (F := Ideal))) ⟨m, fun _ => 0, ρ⟩ fun r =>
      (∀ c : Dev Cert.MainRefIdeal.nD,
        r.2.mem ((c.tc : Thread Cert.MainRefIdeal.nD Cert.MainRefIdeal.τ).loc Cert.MainRefIdeal.main_arg0)
          = m ((c.tc : Thread Cert.MainRefIdeal.nD Cert.MainRefIdeal.τ).loc Cert.MainRefIdeal.main_arg0)
        ∧ r.2.mem ((c.tc : Thread Cert.MainRefIdeal.nD Cert.MainRefIdeal.τ).loc Cert.MainRefIdeal.main_arg1)
          = m ((c.tc : Thread Cert.MainRefIdeal.nD Cert.MainRefIdeal.τ).loc Cert.MainRefIdeal.main_arg1))
      ∧ r.2.sem = fun _ => 0 :=
  (θ_run Cert.MainRefIdeal.defs _ _).mono
    (fun r h => ⟨fun c => (h c).2.2.2, Idealize.ShloMosaic.sem_eq_zero_of_no_sems (by decide) r.2⟩)
    (Cert.MainRefIdeal.Value.run (F := Ideal) m ρ)

/-- Everything the certificate claims. -/
theorem claim : Cert.Claim :=
  ⟨Cert.Main.Gen.facts, Cert.MainIdeal.Gen.facts, Cert.MainRefIdeal.Gen.facts, preFacts,
    fun m ρ _ => Cert.Main.Gen.frame m ρ,
    fun m ρ _ => Cert.MainIdeal.Gen.frame m ρ,
    fun m ρ _ => Cert.MainIdeal.Gen.frame m ρ,
    fun m ρ _ => frame_reference m ρ,
    fun m ρ _ => frame_reference m ρ,
    trivial,
    algebraic (hPre := preFacts)⟩

end Cert.Proof

end
